-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_arrays [hPre_finite_arrays : Cert.Pre_finite_arrays.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_arrays.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_arrays [hPre_finite_arrays : Cert.Pre_finite_arrays.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_arrays.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_arrays [hKernel5Ideal : Cert.Kernel5Ideal.Facts] [hPre_finite_arrays : Cert.Pre_finite_arrays.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_arrays m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_arrays [hReference5Ideal : Cert.Reference5Ideal.Facts] [hPre_finite_arrays : Cert.Pre_finite_arrays.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_arrays m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "qk_scale" .f32 0x3E0293EE#32 (((Real.sqrt 128)⁻¹ * (Real.log 2)⁻¹ : ℝ) : EReal)

def algebraic_KernelIdeal_ReferenceIdeal_pre_finite_gains [hKernelIdeal : Cert.KernelIdeal.Facts] [hReferenceIdeal : Cert.ReferenceIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "diff_scale" .f32 0x3E38AA3B#32 ((8⁻¹ * (Real.log 2)⁻¹ : ℝ) : EReal)

def algebraic_Kernel5Ideal_Reference5Ideal_pre_finite_arrays [hKernel5Ideal : Cert.Kernel5Ideal.Facts] [hReference5Ideal : Cert.Reference5Ideal.Facts] [hPre_finite_arrays : Cert.Pre_finite_arrays.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_arrays m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v53)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v53) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v179) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_gains : Cert.Pre_finite_gains.Facts) (hPre_finite_arrays : Cert.Pre_finite_arrays.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_arrays (hKernel5Ideal := hKernel5Ideal) (hPre_finite_arrays := hPre_finite_arrays)
    ∧ quiescent_Reference5Ideal (hReference5Ideal := hReference5Ideal)
    ∧ quiescent_Reference5Ideal_pre_finite_arrays (hReference5Ideal := hReference5Ideal) (hPre_finite_arrays := hPre_finite_arrays)
    ∧ preserves_Kernel_KernelIdeal
    ∧ algebraic_KernelIdeal_ReferenceIdeal_pre_finite_gains (hKernelIdeal := hKernelIdeal) (hReferenceIdeal := hReferenceIdeal) (hPre_finite_gains := hPre_finite_gains)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_arrays (hKernel5Ideal := hKernel5Ideal) (hReference5Ideal := hReference5Ideal) (hPre_finite_arrays := hPre_finite_arrays)
-- ==== Pre_finite_arrays.lean ====
abbrev S8x2048x4608 : Shape := ⟨3, ![8, 2048, 4608]⟩
abbrev S8x256x4608 : Shape := ⟨3, ![8, 256, 4608]⟩
abbrev S64 : Shape := ⟨1, ![64]⟩
abbrev S4x64 : Shape := ⟨2, ![4, 64]⟩
abbrev S128 : Shape := ⟨1, ![128]⟩
abbrev S_ : Shape := ⟨0, ![]⟩

class Facts : Prop where
  bcast_S_S8x2048x4608 : S_.BroadcastsInDim S8x2048x4608 (![] : Fin 0 → Fin S8x2048x4608.rank)
  reducesTo_S8x2048x4608_S_d0_1_2 : S8x2048x4608.ReducesTo [0, 1, 2] S_
  h_S_ : 0 < S_.numel
  bcast_S_S8x256x4608 : S_.BroadcastsInDim S8x256x4608 (![] : Fin 0 → Fin S8x256x4608.rank)
  reducesTo_S8x256x4608_S_d0_1_2 : S8x256x4608.ReducesTo [0, 1, 2] S_
  bcast_S_S64 : S_.BroadcastsInDim S64 (![] : Fin 0 → Fin S64.rank)
  reducesTo_S64_S_d0 : S64.ReducesTo [0] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg4 : FVec F S4x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4x64 .f32 := Host.absf main_arg4
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  main_v23

def fn {F : FTy → Type} [FloatOps F] (main_arg0 : FVec F S8x2048x4608 .f32) (main_arg1 : FVec F S8x256x4608 .f32) (main_arg2 : FVec F S64 .f32) (main_arg3 : FVec F S64 .f32) (main_arg4 : FVec F S4x64 .f32) (main_arg5 : FVec F S128 .f32) : IVec S_ 1 :=
  let main_v0 : FVec F S8x2048x4608 .f32 := Host.absf main_arg0
  let main_cst : FVec F S_ .f32 := constant S_ .f32 0x7F800000#32
  let main_v1 : FVec F S8x2048x4608 .f32 := broadcastInDim S8x2048x4608 ![] bcast_S_S8x2048x4608 main_cst
  let main_v2 : IVec S8x2048x4608 1 := cmpf .olt main_v0 main_v1
  let main_c : IVec S_ 1 := constantI S_ 1 1#1
  let main_v3 : IVec S_ 1 := (fun x v => Host.reduce IntOp.andi x v reducesTo_S8x2048x4608_S_d0_1_2 h_S_) main_v2 main_c
  let main_v4 : FVec F S8x256x4608 .f32 := Host.absf main_arg1
  let main_cst_0 : FVec F S_ .f32 := constant S_ .f32 0x7F800000#32
  let main_v5 : FVec F S8x256x4608 .f32 := broadcastInDim S8x256x4608 ![] bcast_S_S8x256x4608 main_cst_0
  let main_v6 : IVec S8x256x4608 1 := cmpf .olt main_v4 main_v5
  let main_c_1 : IVec S_ 1 := constantI S_ 1 1#1
  let main_v7 : IVec S_ 1 := (fun x v => Host.reduce IntOp.andi x v reducesTo_S8x256x4608_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Pre_finite_gains.lean ====
abbrev S8x2048x4608 : Shape := ⟨3, ![8, 2048, 4608]⟩
abbrev S8x256x4608 : Shape := ⟨3, ![8, 256, 4608]⟩
abbrev S128 : Shape := ⟨1, ![128]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S8x2048x4608 .f32) (main_arg1 : FVec F S8x256x4608 .f32) (main_arg2 : FVec F S128 .f32) (main_arg3 : FVec F S128 .f32) : IVec S128 1 :=
  let main_v0 : FVec F S128 .f32 := Host.absf main_arg2
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S128 .f32 := Host.absf main_arg3
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : IVec S128 1 := andi main_v2 main_v5
  main_v6
-- ==== Kernel.lean ====
abbrev S8x2048x4608 : Shape := ⟨3, ![8, 2048, 4608]⟩
abbrev S8x256x4608 : Shape := ⟨3, ![8, 256, 4608]⟩
abbrev S128 : Shape := ⟨1, ![128]⟩
abbrev S2 : Shape := ⟨1, ![2]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x64x2 : Shape := ⟨3, ![2048, 64, 2]⟩
abbrev S2048x128 : Shape := ⟨2, ![2048, 128]⟩
abbrev S1x2 : Shape := ⟨2, ![1, 2]⟩
abbrev S64x2 : Shape := ⟨2, ![64, 2]⟩
abbrev S1x128 : Shape := ⟨2, ![1, 128]⟩
abbrev S1x2048x1x128 : Shape := ⟨4, ![1, 2048, 1, 128]⟩
abbrev S8x2048x1024 : Shape := ⟨3, ![8, 2048, 1024]⟩
abbrev S1x1024x128 : Shape := ⟨3, ![1, 1024, 128]⟩
abbrev S1x256x128 : Shape := ⟨3, ![1, 256, 128]⟩
abbrev S1x2048x128 : Shape := ⟨3, ![1, 2048, 128]⟩
abbrev S1024x128 : Shape := ⟨2, ![1024, 128]⟩
abbrev S1x1024x512 : Shape := ⟨3, ![1, 1024, 512]⟩
abbrev S2304x128 : Shape := ⟨2, ![2304, 128]⟩
abbrev S256x128 : Shape := ⟨2, ![256, 128]⟩
abbrev S256 : Shape := ⟨1, ![256]⟩
abbrev S256x1 : Shape := ⟨2, ![256, 1]⟩
abbrev S256x2304 : Shape := ⟨2, ![256, 2304]⟩

abbrev nBuf : Space → Nat
  | .hbm => 94
  | .vmem => 28
  | .smem => 0
  | _ => 0

abbrev bufTy : (tb : Table) → Fin (tcTables nBuf tb) → BufTy
  | .hbm, ⟨0, _⟩ => ⟨S8x2048x4608, .f32⟩
  | .hbm, ⟨1, _⟩ => ⟨S8x256x4608, .f32⟩
  | .hbm, ⟨2, _⟩ => ⟨S128, .f32⟩
  | .hbm, ⟨3, _⟩ => ⟨S128, .f32⟩
  | .hbm, ⟨4, _⟩ => ⟨S2, .f32⟩
  | .hbm, ⟨5, _⟩ => ⟨S2048, .i32⟩
  | .hbm, ⟨6, _⟩ => ⟨S_, .i32⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S2048, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S_, .i32⟩
  | .hbm, ⟨40, _⟩ => ⟨S_, .i1⟩
  | .hbm, ⟨41, _⟩ => ⟨S2048, .i1⟩
  | .hbm, ⟨42, _⟩ => ⟨S2048, .i1⟩
  | .hbm, ⟨43, _⟩ => ⟨S2048, .i1⟩
  | .hbm, ⟨44, _⟩ => ⟨S2048, .i32⟩
  | .hbm, ⟨45, _⟩ => ⟨S2048, .i32⟩
  | .hbm, ⟨46, _⟩ => ⟨S2048, .i32⟩
  | .hbm, ⟨47, _⟩ => ⟨S2048, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S2048x1, .f32⟩
  | .hbm, ⟨63, _⟩ => ⟨S1x32, .f32⟩
  | .hbm, ⟨64, _⟩ => ⟨S2048x32, .f32⟩
  | .hbm, ⟨65, _⟩ => ⟨S2048x32, .f32⟩
  | .hbm, ⟨66, _⟩ => ⟨S2048x32, .f32⟩
  | .hbm, ⟨67, _⟩ => ⟨S2048x1, .f32⟩
  | .hbm, ⟨68, _⟩ => ⟨S1x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x64, .f32⟩
  | .hbm, ⟨73, _⟩ => ⟨S2048x64, .f32⟩
  | .hbm, ⟨74, _⟩ => ⟨S2048x64x2, .f32⟩
  | .hbm, ⟨75, _⟩ => ⟨S2048x128, .f32⟩
  | .hbm, ⟨76, _⟩ => ⟨S2048x64, .f32⟩
  | .hbm, ⟨77, _⟩ => ⟨S2048x64x2, .f32⟩
  | .hbm, ⟨78, _⟩ => ⟨S2048x128, .f32⟩
  | .hbm, ⟨79, _⟩ => ⟨S1x2, .f32⟩
  | .hbm, ⟨80, _⟩ => ⟨S64x2, .f32⟩
  | .hbm, ⟨81, _⟩ => ⟨S128, .f32⟩
  | .hbm, ⟨82, _⟩ => ⟨S1x128, .f32⟩
  | .hbm, ⟨83, _⟩ => ⟨S2048x128, .f32⟩
  | .hbm, ⟨84, _⟩ => ⟨S2048x128, .f32⟩
  | .hbm, ⟨85, _⟩ => ⟨S1x2048x1x128, .f32⟩
  | .hbm, ⟨86, _⟩ => ⟨S1x2048x1x128, .f32⟩
  | .hbm, ⟨87, _⟩ => ⟨S2048x128, .f32⟩
  | .hbm, ⟨88, _⟩ => ⟨S1x2048x1x128, .f32⟩
  | .hbm, ⟨89, _⟩ => ⟨S1x2048x1x128, .f32⟩
  | .hbm, ⟨90, _⟩ => ⟨S2048x128, .f32⟩
  | .hbm, ⟨91, _⟩ => ⟨S1x128, .f32⟩
  | .hbm, ⟨92, _⟩ => ⟨S1x128, .f32⟩
  | .hbm, ⟨93, _⟩ => ⟨S8x2048x1024, .bf16⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S2048x128, .f32⟩
  | .local _ .vmem, ⟨21, _⟩ => ⟨S2048x128, .f32⟩
  | .local _ .vmem, ⟨22, _⟩ => ⟨S1x128, .f32⟩
  | .local _ .vmem, ⟨23, _⟩ => ⟨S1x128, .f32⟩
  | .local _ .vmem, ⟨24, _⟩ => ⟨S1x1024x512, .bf16⟩
  | .local _ .vmem, ⟨25, _⟩ => ⟨S1x1024x512, .bf16⟩
  | .local _ .vmem, ⟨26, _⟩ => ⟨S2304x128, .bf16⟩
  | .local _ .vmem, ⟨27, _⟩ => ⟨S2304x128, .bf16⟩
  | _, _ => ⟨S8x2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_cst_1 : Ref sig .tc := ⟨.hbm, 49, rfl⟩
abbrev main_v6 : Ref sig .tc := ⟨.hbm, 50, rfl⟩
abbrev main_v7 : Ref sig .tc := ⟨.hbm, 51, rfl⟩
abbrev main_cst_2 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_cst_3 : Ref sig .tc := ⟨.hbm, 56, rfl⟩
abbrev main_v11 : Ref sig .tc := ⟨.hbm, 57, rfl⟩
abbrev main_v12 : Ref sig .tc := ⟨.hbm, 58, rfl⟩
abbrev main_cst_4 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c4_i32_0 : BitVec 32 := 4#32
  let v1 : BitVec 32 := Scalar.addi c4_i32_0 v0
  let c0_i32 : BitVec 32 := 0#32
  let v2 : BitVec 32 := Scalar.addi v1 c0_i32
  let c0_i32_1 : BitVec 32 := 0#32
  ![arg0.toNat, arg2.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c4_i32_0 : BitVec 32 := 4#32
  let v1 : BitVec 32 := Scalar.addi c4_i32_0 v0
  let c1_i32 : BitVec 32 := 1#32
  let v2 : BitVec 32 := Scalar.addi v1 c1_i32
  let c0_i32 : BitVec 32 := 0#32
  ![arg0.toNat, arg2.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c4_i32_0 : BitVec 32 := 4#32
  let v1 : BitVec 32 := Scalar.addi c4_i32_0 v0
  let c2_i32 : BitVec 32 := 2#32
  let v2 : BitVec 32 := Scalar.addi v1 c2_i32
  let c0_i32 : BitVec 32 := 0#32
  ![arg0.toNat, arg2.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c4_i32_0 : BitVec 32 := 4#32
  let v1 : BitVec 32 := Scalar.addi c4_i32_0 v0
  let c3_i32 : BitVec 32 := 3#32
  let v2 : BitVec 32 := Scalar.addi v1 c3_i32
  let c0_i32 : BitVec 32 := 0#32
  ![arg0.toNat, arg2.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.addi c26_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.addi c26_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S2048x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]
-- ==== KernelIdeal.lean ====
variable {F : FTy → Type} [FloatOps F] [Named F]
def κ : String → Option EReal := fun
  | "qk_scale" => some (((Real.sqrt 128)⁻¹ * (Real.log 2)⁻¹ : ℝ) : EReal)
  | _ => none
-- ==== ReferenceIdeal.lean ====
abbrev S8x2048x4608 : Shape := ⟨3, ![8, 2048, 4608]⟩
abbrev S8x256x4608 : Shape := ⟨3, ![8, 256, 4608]⟩
abbrev S128 : Shape := ⟨1, ![128]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S8x2048x1024 : Shape := ⟨3, ![8, 2048, 1024]⟩
abbrev S8x2048x2x4x128 : Shape := ⟨5, ![8, 2048, 2, 4, 128]⟩
abbrev S8x2x4x2048x128 : Shape := ⟨5, ![8, 2, 4, 2048, 128]⟩
abbrev S8x2x4x2048 : Shape := ⟨4, ![8, 2, 4, 2048]⟩
abbrev S8x2x4x2048x1 : Shape := ⟨5, ![8, 2, 4, 2048, 1]⟩
abbrev S1x1x1x1x128 : Shape := ⟨5, ![1, 1, 1, 1, 128]⟩
abbrev S8x2x4x2048x64 : Shape := ⟨5, ![8, 2, 4, 2048, 64]⟩
abbrev S1x1x1x2048x64 : Shape := ⟨5, ![1, 1, 1, 2048, 64]⟩
abbrev S8x2x4x2048x64x1 : Shape := ⟨6, ![8, 2, 4, 2048, 64, 1]⟩
abbrev S8x2x4x2048x64x2 : Shape := ⟨6, ![8, 2, 4, 2048, 64, 2]⟩
abbrev S8x2048x256 : Shape := ⟨3, ![8, 2048, 256]⟩
abbrev S8x2048x2x128 : Shape := ⟨4, ![8, 2048, 2, 128]⟩
abbrev S8x2x2048x128 : Shape := ⟨4, ![8, 2, 2048, 128]⟩
abbrev S8x2x2048 : Shape := ⟨3, ![8, 2, 2048]⟩
abbrev S8x2x2048x1 : Shape := ⟨4, ![8, 2, 2048, 1]⟩
abbrev S1x1x1x128 : Shape := ⟨4, ![1, 1, 1, 128]⟩
abbrev S8x2x2048x64 : Shape := ⟨4, ![8, 2, 2048, 64]⟩
abbrev S1x1x2048x64 : Shape := ⟨4, ![1, 1, 2048, 64]⟩
abbrev S8x2x2048x64x1 : Shape := ⟨5, ![8, 2, 2048, 64, 1]⟩
abbrev S8x2x2048x64x2 : Shape := ⟨5, ![8, 2, 2048, 64, 2]⟩
abbrev S8x256x256 : Shape := ⟨3, ![8, 256, 256]⟩
abbrev S8x256x2x128 : Shape := ⟨4, ![8, 256, 2, 128]⟩
abbrev S8x2x256x128 : Shape := ⟨4, ![8, 2, 256, 128]⟩
abbrev S8x2x256 : Shape := ⟨3, ![8, 2, 256]⟩
abbrev S8x2x256x1 : Shape := ⟨4, ![8, 2, 256, 1]⟩
abbrev S8x2x2304x128 : Shape := ⟨4, ![8, 2, 2304, 128]⟩
abbrev S8x2x4x2048x2304 : Shape := ⟨5, ![8, 2, 4, 2048, 2304]⟩

abbrev nBuf : Space → Nat
  | .hbm => 202
  | .vmem => 0
  | .smem => 0
  | _ => 0

abbrev hbmTy0_0 (i : Nat) : BufTy := match i % 128 with
  | 0 => ⟨S8x2048x4608, .f32⟩
  | 1 => ⟨S8x256x4608, .f32⟩
  | 2 => ⟨S128, .f32⟩
  | 3 => ⟨S128, .f32⟩
  | 4 => ⟨S2048, .i32⟩
  | 5 => ⟨S_, .i32⟩
  | 6 => ⟨S_, .i32⟩
  | 7 => ⟨S2048, .i32⟩
  | 8 => ⟨S2048, .i32⟩
  | 9 => ⟨S2048, .i32⟩
  | 10 => ⟨S_, .i32⟩
  | 11 => ⟨S2048, .i32⟩
  | 12 => ⟨S2048, .i1⟩
  | 13 => ⟨S2048, .i32⟩
  | 14 => ⟨S2048, .i32⟩
  | 15 => ⟨S_, .i32⟩
  | 16 => ⟨S2048, .i32⟩
  | 17 => ⟨S2048, .i1⟩
  | 18 => ⟨S2048, .i1⟩
  | 19 => ⟨S_, .i32⟩
  | 20 => ⟨S2048, .i32⟩
  | 21 => ⟨S2048, .i32⟩
  | 22 => ⟨S2048, .i32⟩
  | 23 => ⟨S2048, .f32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S2048, .i32⟩
  | 31 => ⟨S2048, .i32⟩
  | 32 => ⟨S_, .i32⟩
  | 33 => ⟨S2048, .i32⟩
  | 34 => ⟨S2048, .i1⟩
  | 35 => ⟨S_, .i32⟩
  | 36 => ⟨S2048, .i32⟩
  | 37 => ⟨S2048, .i1⟩
  | 38 => ⟨S_, .i32⟩
  | 39 => ⟨S_, .i1⟩
  | 40 => ⟨S2048, .i1⟩
  | 41 => ⟨S2048, .i1⟩
  | 42 => ⟨S2048, .i1⟩
  | 43 => ⟨S2048, .i32⟩
  | 44 => ⟨S2048, .i32⟩
  | 45 => ⟨S2048, .i32⟩
  | 46 => ⟨S2048, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S2048x1, .f32⟩
  | 62 => ⟨S1x32, .f32⟩
  | 63 => ⟨S2048x32, .f32⟩
  | 64 => ⟨S2048x32, .f32⟩
  | 65 => ⟨S2048x32, .f32⟩
  | 66 => ⟨S2048x1, .f32⟩
  | 67 => ⟨S1x32, .f32⟩
  | 68 => ⟨S2048x32, .f32⟩
  | 69 => ⟨S2048x32, .f32⟩
  | 70 => ⟨S2048x32, .f32⟩
  | 71 => ⟨S2048x64, .f32⟩
  | 72 => ⟨S2048x64, .f32⟩
  | 73 => ⟨S2048x64, .f32⟩
  | 74 => ⟨S8x2048x1024, .f32⟩
  | 75 => ⟨S8x2048x2x4x128, .f32⟩
  | 76 => ⟨S8x2x4x2048x128, .f32⟩
  | 77 => ⟨S8x2x4x2048x128, .f32⟩
  | 78 => ⟨S_, .f32⟩
  | 79 => ⟨S8x2x4x2048, .f32⟩
  | 80 => ⟨S8x2x4x2048x1, .f32⟩
  | 81 => ⟨S_, .f32⟩
  | 82 => ⟨S8x2x4x2048x1, .f32⟩
  | 83 => ⟨S8x2x4x2048x1, .f32⟩
  | 84 => ⟨S_, .f32⟩
  | 85 => ⟨S8x2x4x2048x1, .f32⟩
  | 86 => ⟨S8x2x4x2048x1, .f32⟩
  | 87 => ⟨S8x2x4x2048x1, .f32⟩
  | 88 => ⟨S8x2x4x2048x128, .f32⟩
  | 89 => ⟨S8x2x4x2048x128, .f32⟩
  | 90 => ⟨S1x1x1x1x128, .f32⟩
  | 91 => ⟨S8x2x4x2048x128, .f32⟩
  | 92 => ⟨S8x2x4x2048x128, .f32⟩
  | 93 => ⟨S8x2x4x2048x64, .f32⟩
  | 94 => ⟨S8x2x4x2048x64, .f32⟩
  | 95 => ⟨S1x1x1x2048x64, .f32⟩
  | 96 => ⟨S8x2x4x2048x64, .f32⟩
  | 97 => ⟨S8x2x4x2048x64, .f32⟩
  | 98 => ⟨S1x1x1x2048x64, .f32⟩
  | 99 => ⟨S8x2x4x2048x64, .f32⟩
  | 100 => ⟨S8x2x4x2048x64, .f32⟩
  | 101 => ⟨S8x2x4x2048x64, .f32⟩
  | 102 => ⟨S1x1x1x2048x64, .f32⟩
  | 103 => ⟨S8x2x4x2048x64, .f32⟩
  | 104 => ⟨S8x2x4x2048x64, .f32⟩
  | 105 => ⟨S1x1x1x2048x64, .f32⟩
  | 106 => ⟨S8x2x4x2048x64, .f32⟩
  | 107 => ⟨S8x2x4x2048x64, .f32⟩
  | 108 => ⟨S8x2x4x2048x64, .f32⟩
  | 109 => ⟨S8x2x4x2048x64x1, .f32⟩
  | 110 => ⟨S8x2x4x2048x64x1, .f32⟩
  | 111 => ⟨S8x2x4x2048x64x2, .f32⟩
  | 112 => ⟨S8x2x4x2048x128, .f32⟩
  | 113 => ⟨S8x2048x256, .f32⟩
  | 114 => ⟨S8x2048x2x128, .f32⟩
  | 115 => ⟨S8x2x2048x128, .f32⟩
  | 116 => ⟨S8x2x2048x128, .f32⟩
  | 117 => ⟨S_, .f32⟩
  | 118 => ⟨S8x2x2048, .f32⟩
  | 119 => ⟨S8x2x2048x1, .f32⟩
  | 120 => ⟨S_, .f32⟩
  | 121 => ⟨S8x2x2048x1, .f32⟩
  | 122 => ⟨S8x2x2048x1, .f32⟩
  | 123 => ⟨S_, .f32⟩
  | 124 => ⟨S8x2x2048x1, .f32⟩
  | 125 => ⟨S8x2x2048x1, .f32⟩
  | 126 => ⟨S8x2x2048x1, .f32⟩
  | 127 => ⟨S8x2x2048x128, .f32⟩
  | _ => ⟨S8x2048x4608, .f32⟩

abbrev hbmTy0_1 (i : Nat) : BufTy := match i % 128 with
  | 0 => ⟨S8x2x2048x128, .f32⟩
  | 1 => ⟨S1x1x1x128, .f32⟩
  | 2 => ⟨S8x2x2048x128, .f32⟩
  | 3 => ⟨S8x2x2048x128, .f32⟩
  | 4 => ⟨S8x2x2048x64, .f32⟩
  | 5 => ⟨S8x2x2048x64, .f32⟩
  | 6 => ⟨S1x1x2048x64, .f32⟩
  | 7 => ⟨S8x2x2048x64, .f32⟩
  | 8 => ⟨S8x2x2048x64, .f32⟩
  | 9 => ⟨S1x1x2048x64, .f32⟩
  | 10 => ⟨S8x2x2048x64, .f32⟩
  | 11 => ⟨S8x2x2048x64, .f32⟩
  | 12 => ⟨S8x2x2048x64, .f32⟩
  | 13 => ⟨S1x1x2048x64, .f32⟩
  | 14 => ⟨S8x2x2048x64, .f32⟩
  | 15 => ⟨S8x2x2048x64, .f32⟩
  | 16 => ⟨S1x1x2048x64, .f32⟩
  | 17 => ⟨S8x2x2048x64, .f32⟩
  | 18 => ⟨S8x2x2048x64, .f32⟩
  | 19 => ⟨S8x2x2048x64, .f32⟩
  | 20 => ⟨S8x2x2048x64x1, .f32⟩
  | 21 => ⟨S8x2x2048x64x1, .f32⟩
  | 22 => ⟨S8x2x2048x64x2, .f32⟩
  | 23 => ⟨S8x2x2048x128, .f32⟩
  | 24 => ⟨S8x2048x256, .f32⟩
  | 25 => ⟨S8x2048x2x128, .f32⟩
  | 26 => ⟨S8x2x2048x128, .f32⟩
  | 27 => ⟨S8x256x256, .f32⟩
  | 28 => ⟨S8x256x2x128, .f32⟩
  | 29 => ⟨S8x2x256x128, .f32⟩
  | 30 => ⟨S8x2x256x128, .f32⟩
  | 31 => ⟨S_, .f32⟩
  | 32 => ⟨S8x2x256, .f32⟩
  | 33 => ⟨S8x2x256x1, .f32⟩
  | 34 => ⟨S_, .f32⟩
  | 35 => ⟨S8x2x256x1, .f32⟩
  | 36 => ⟨S8x2x256x1, .f32⟩
  | 37 => ⟨S_, .f32⟩
  | 38 => ⟨S8x2x256x1, .f32⟩
  | 39 => ⟨S8x2x256x1, .f32⟩
  | 40 => ⟨S8x2x256x1, .f32⟩
  | 41 => ⟨S8x2x256x128, .f32⟩
  | 42 => ⟨S8x2x256x128, .f32⟩
  | 43 => ⟨S1x1x1x128, .f32⟩
  | 44 => ⟨S8x2x256x128, .f32⟩
  | 45 => ⟨S8x2x256x128, .f32⟩
  | 46 => ⟨S8x256x256, .f32⟩
  | 47 => ⟨S8x256x2x128, .f32⟩
  | 48 => ⟨S8x2x256x128, .f32⟩
  | 49 => ⟨S8x2x2304x128, .f32⟩
  | 50 => ⟨S8x2x2304x128, .f32⟩
  | 51 => ⟨S8x2x4x2048x2304, .f32⟩
  | 52 => ⟨S_, .f32⟩
  | 53 => ⟨S_, .f32⟩
  | 54 => ⟨S8x2x4x2048x2304, .f32⟩
  | 55 => ⟨S8x2x4x2048x2304, .f32⟩
  | 56 => ⟨S_, .f32⟩
  | 57 => ⟨S8x2x4x2048, .f32⟩
  | 58 => ⟨S_, .f32⟩
  | 59 => ⟨S8x2x4x2048, .f32⟩
  | 60 => ⟨S8x2x4x2048, .f32⟩
  | 61 => ⟨S8x2x4x2048x1, .f32⟩
  | 62 => ⟨S8x2x4x2048x2304, .f32⟩
  | 63 => ⟨S8x2x4x2048x2304, .f32⟩
  | 64 => ⟨S8x2x4x2048x2304, .f32⟩
  | 65 => ⟨S_, .f32⟩
  | 66 => ⟨S8x2x4x2048, .f32⟩
  | 67 => ⟨S8x2x4x2048x1, .f32⟩
  | 68 => ⟨S8x2x4x2048x2304, .f32⟩
  | 69 => ⟨S8x2x4x2048x2304, .f32⟩
  | 70 => ⟨S8x2x4x2048x128, .f32⟩
  | 71 => ⟨S8x2048x2x4x128, .f32⟩
  | 72 => ⟨S8x2048x1024, .f32⟩
  | 73 => ⟨S8x2048x1024, .bf16⟩
  | _ => ⟨S8x2048x4608, .f32⟩

abbrev hbmTy (i : Nat) : BufTy := match i / 128 with
  | 0 => hbmTy0_0 i
  | 1 => hbmTy0_1 i
  | _ => ⟨S8x2048x4608, .f32⟩

abbrev bufTy : (tb : Table) → Fin (tcTables nBuf tb) → BufTy
  | .hbm, ⟨i, _⟩ => hbmTy i
  | _, _ => ⟨S8x2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_cst : Ref sig .tc := ⟨.hbm, 48, rfl⟩
abbrev main_v6 : Ref sig .tc := ⟨.hbm, 49, rfl⟩
abbrev main_v7 : Ref sig .tc := ⟨.hbm, 50, rfl⟩
abbrev main_cst_1 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_2 : Ref sig .tc := ⟨.hbm, 55, rfl⟩
abbrev main_v11 : Ref sig .tc := ⟨.hbm, 56, rfl⟩
abbrev main_v12 : Ref sig .tc := ⟨.hbm, 57, rfl⟩
abbrev main_cst_3 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_cst_4 : Ref sig .tc := ⟨.hbm, 78, rfl⟩
abbrev main_v32 : Ref sig .tc := ⟨.hbm, 79, rfl⟩
abbrev main_v33 : Ref sig .tc := ⟨.hbm, 80, rfl⟩
abbrev main_cst_5 : Ref sig .tc := ⟨.hbm, 81, rfl⟩
abbrev main_v34 : Ref sig .tc := ⟨.hbm, 82, rfl⟩
abbrev main_v35 : Ref sig .tc := ⟨.hbm, 83, rfl⟩
abbrev main_cst_6 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_cst_7 : Ref sig .tc := ⟨.hbm, 117, rfl⟩
abbrev main_v68 : Ref sig .tc := ⟨.hbm, 118, rfl⟩
abbrev main_v69 : Ref sig .tc := ⟨.hbm, 119, rfl⟩
abbrev main_cst_8 : Ref sig .tc := ⟨.hbm, 120, rfl⟩
abbrev main_v70 : Ref sig .tc := ⟨.hbm, 121, rfl⟩
abbrev main_v71 : Ref sig .tc := ⟨.hbm, 122, rfl⟩
abbrev main_cst_9 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_10 : Ref sig .tc := ⟨.hbm, 159, rfl⟩
abbrev main_v107 : Ref sig .tc := ⟨.hbm, 160, rfl⟩
abbrev main_v108 : Ref sig .tc := ⟨.hbm, 161, rfl⟩
abbrev main_cst_11 : Ref sig .tc := ⟨.hbm, 162, rfl⟩
abbrev main_v109 : Ref sig .tc := ⟨.hbm, 163, rfl⟩
abbrev main_v110 : Ref sig .tc := ⟨.hbm, 164, rfl⟩
abbrev main_cst_12 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_13 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_cst_14 : Ref sig .tc := ⟨.hbm, 184, rfl⟩
abbrev main_v128 : Ref sig .tc := ⟨.hbm, 185, rfl⟩
abbrev main_cst_15 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_cst_16 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩

abbrev nD : Nat := 1
abbrev τ : Topo := Topo.v7x

variable {F : FTy → Type} [FloatOps F]
-- ==== Kernel2.lean ====
abbrev S8x2048x2048 : Shape := ⟨3, ![8, 2048, 2048]⟩
abbrev S2048 : Shape := ⟨1, ![2048]⟩
abbrev S8x1x2048 : Shape := ⟨3, ![8, 1, 2048]⟩
abbrev S2048x4608 : Shape := ⟨2, ![2048, 4608]⟩
abbrev S1x2048 : Shape := ⟨2, ![1, 2048]⟩
abbrev S8x2048x4608 : Shape := ⟨3, ![8, 2048, 4608]⟩
abbrev S1x1024x2048 : Shape := ⟨3, ![1, 1024, 2048]⟩
abbrev S1x1x2048 : Shape := ⟨3, ![1, 1, 2048]⟩
abbrev S2048x768 : Shape := ⟨2, ![2048, 768]⟩
abbrev S1x1024x768 : Shape := ⟨3, ![1, 1024, 768]⟩
abbrev S2x1024x2048 : Shape := ⟨3, ![2, 1024, 2048]⟩
abbrev S1024x2048 : Shape := ⟨2, ![1024, 2048]⟩
abbrev S1024 : Shape := ⟨1, ![1024]⟩
abbrev S1024x1 : Shape := ⟨2, ![1024, 1]⟩
abbrev S1024x768 : Shape := ⟨2, ![1024, 768]⟩

abbrev nBuf : Space → Nat
  | .hbm => 7
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x4608, .bf16⟩
  | .hbm, ⟨5, _⟩ => ⟨S1x2048, .f32⟩
  | .hbm, ⟨6, _⟩ => ⟨S8x2048x4608, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x768, .bf16⟩
  | .local _ .vmem, ⟨8, _⟩ => ⟨S2048x768, .bf16⟩
  | .local _ .vmem, ⟨9, _⟩ => ⟨S1x1024x768, .f32⟩
  | .local _ .vmem, ⟨10, _⟩ => ⟨S1x1024x768, .f32⟩
  | .local _ .vmem, ⟨11, _⟩ => ⟨S2x1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![17, 6], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c5_i32 : BitVec 32 := 5#32
  let v1 : BitVec 1 := Scalar.cmpi .eq arg1 c5_i32
  let v2 : BitVec 1 := Scalar.andi v0 v1
  let v3 : BitVec 32 := Scalar.extui v2
  let c0_i32_0 : BitVec 32 := 0#32
  let v4 : BitVec 1 := Scalar.cmpi .ne v3 c0_i32_0
  v4

def k0_off1 (i : grid0.Coords) : Fin 3 → Nat :=
  let arg0 : BitVec 32 := BitVec.ofNat 32 (i 0).val
  let c2_i32 : BitVec 32 := 2#32
  let c0_i32_19 : BitVec 32 := 0#32
  let v44 : BitVec 1 := Scalar.cmpi .eq c2_i32 c0_i32_19
  let c1_i32 : BitVec 32 := 1#32
  let v45 : BitVec 32 := Scalar.select v44 c1_i32 c2_i32
  let v46 : BitVec 32 := Scalar.remsi arg0 v45
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let c0_i32_20 : BitVec 32 := 0#32
  let v47 : BitVec 1 := Scalar.cmpi .ne v46 c0_i32_20
  let v51 : BitVec 1 := Scalar.andi v50 v47
  let v52 : BitVec 32 := Scalar.addi v46 v45
  let v53 : BitVec 32 := Scalar.select v51 v52 v46
  let v54 : Index := Scalar.indexCast v53
  let c0_23 : Index := 0#32
  let c0_24 : Index := 0#32
  ![v54.toNat, 0, 0]
def k0_cond2 (i : grid0.Coords) : BitVec 1 :=
  let arg0 : BitVec 32 := BitVec.ofNat 32 (i 0).val
  let c0_i32_3 : BitVec 32 := 0#32
  let v10 : BitVec 1 := Scalar.cmpi .sgt arg0 c0_i32_3
  let c0_i32_1 : BitVec 32 := 0#32
  let v5 : BitVec 1 := Scalar.cmpi .sgt arg0 c0_i32_1
  let c16_i32 : BitVec 32 := 16#32
  let v6 : BitVec 1 := Scalar.cmpi .slt arg0 c16_i32
  let v7 : BitVec 1 := Scalar.andi v5 v6
  let arg1 : BitVec 32 := BitVec.ofNat 32 (i 1).val
  let c5_i32_2 : BitVec 32 := 5#32
  let v8 : BitVec 1 := Scalar.cmpi .eq arg1 c5_i32_2
  let v9 : BitVec 1 := Scalar.andi v7 v8
  let v_true : BitVec 1 := 1#1
  let v11 : BitVec 1 := Scalar.xori v9 v_true
  let v12 : BitVec 1 := Scalar.andi v10 v11
  let v13 : BitVec 32 := Scalar.extui v12
  let c0_i32_4 : BitVec 32 := 0#32
  let v14 : BitVec 1 := Scalar.cmpi .ne v13 c0_i32_4
  v14

def k0_off2 (i : grid0.Coords) : Fin 3 → Nat :=
  let arg0 : BitVec 32 := BitVec.ofNat 32 (i 0).val
  let c1_i32 : BitVec 32 := 1#32
  let v17 : BitVec 32 := Scalar.addi arg0 c1_i32
  let c2_i32 : BitVec 32 := 2#32
  let c0_i32_6 : BitVec 32 := 0#32
  let v18 : BitVec 1 := Scalar.cmpi .eq c2_i32 c0_i32_6
  let c1_i32_7 : BitVec 32 := 1#32
  let v19 : BitVec 32 := Scalar.select v18 c1_i32_7 c2_i32
  let v20 : BitVec 32 := Scalar.remsi v17 v19
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let c0_i32_8 : BitVec 32 := 0#32
  let v21 : BitVec 1 := Scalar.cmpi .ne v20 c0_i32_8
  let v25 : BitVec 1 := Scalar.andi v24 v21
  let v26 : BitVec 32 := Scalar.addi v20 v19
  let v27 : BitVec 32 := Scalar.select v25 v26 v20
  let v28 : Index := Scalar.indexCast v27
  let c0 : Index := 0#32
  let c0_11 : Index := 0#32
  ![v28.toNat, 0, 0]
def k0_cond3 (i : grid0.Coords) : BitVec 1 :=
  let arg0 : BitVec 32 := BitVec.ofNat 32 (i 0).val
  let c0_i32_1 : BitVec 32 := 0#32
  let v5 : BitVec 1 := Scalar.cmpi .sgt arg0 c0_i32_1
  let c16_i32 : BitVec 32 := 16#32
  let v6 : BitVec 1 := Scalar.cmpi .slt arg0 c16_i32
  let v7 : BitVec 1 := Scalar.andi v5 v6
  let arg1 : BitVec 32 := BitVec.ofNat 32 (i 1).val
  let c5_i32_2 : BitVec 32 := 5#32
  let v8 : BitVec 1 := Scalar.cmpi .eq arg1 c5_i32_2
  let v9 : BitVec 1 := Scalar.andi v7 v8
  let v15 : BitVec 32 := Scalar.extui v9
  let c0_i32_5 : BitVec 32 := 0#32
  let v16 : BitVec 1 := Scalar.cmpi .ne v15 c0_i32_5
  v16

def k0_off3 (i : grid0.Coords) : Fin 3 → Nat :=
  let arg0 : BitVec 32 := BitVec.ofNat 32 (i 0).val
  let c1_i32 : BitVec 32 := 1#32
  let v17 : BitVec 32 := Scalar.addi arg0 c1_i32
  let c2_i32 : BitVec 32 := 2#32
  let c0_i32_6 : BitVec 32 := 0#32
  let v18 : BitVec 1 := Scalar.cmpi .eq c2_i32 c0_i32_6
  let c1_i32_7 : BitVec 32 := 1#32
  let v19 : BitVec 32 := Scalar.select v18 c1_i32_7 c2_i32
  let v20 : BitVec 32 := Scalar.remsi v17 v19
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let c0_i32_8 : BitVec 32 := 0#32
  let v21 : BitVec 1 := Scalar.cmpi .ne v20 c0_i32_8
  let v25 : BitVec 1 := Scalar.andi v24 v21
  let v26 : BitVec 32 := Scalar.addi v20 v19
  let v27 : BitVec 32 := Scalar.select v25 v26 v20
  let v28 : Index := Scalar.indexCast v27
  let c0 : Index := 0#32
  let c0_11 : Index := 0#32
  ![v28.toNat, 0, 0]
def k0_off4 (i : grid0.Coords) : Fin 3 → Nat :=
  let arg0 : BitVec 32 := BitVec.ofNat 32 (i 0).val
  let c2_i32_32 : BitVec 32 := 2#32
  let c0_i32_33 : BitVec 32 := 0#32
  let v63 : BitVec 1 := Scalar.cmpi .eq c2_i32_32 c0_i32_33
  let c1_i32_34 : BitVec 32 := 1#32
  let v64 : BitVec 32 := Scalar.select v63 c1_i32_34 c2_i32_32
  let v65 : BitVec 32 := Scalar.remsi arg0 v64
  let c0_i32_36 : BitVec 32 := 0#32
  let v67 : BitVec 1 := Scalar.cmpi .slt v65 c0_i32_36
  let c0_i32_37 : BitVec 32 := 0#32
  let v68 : BitVec 1 := Scalar.cmpi .slt v64 c0_i32_37
  let v69 : BitVec 1 := Scalar.xori v67 v68
  let c0_i32_35 : BitVec 32 := 0#32
  let v66 : BitVec 1 := Scalar.cmpi .ne v65 c0_i32_35
  let v70 : BitVec 1 := Scalar.andi v69 v66
  let v71 : BitVec 32 := Scalar.addi v65 v64
  let v72 : BitVec 32 := Scalar.select v70 v71 v65
  let v73 : Index := Scalar.indexCast v72
  let c0_38 : Index := 0#32
  let c0_39 : Index := 0#32
  ![v73.toNat, 0, 0]
def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let v31 : BitVec 1 := Scalar.cmpi .eq arg0 c0_i32_14
  let c0_i32_15 : BitVec 32 := 0#32
  let v32 : BitVec 32 := Scalar.select v31 c0_i32_15 arg1
  let c0_i32_16 : BitVec 32 := 0#32
  ![v18.toNat, v30.toNat, v32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x2048x2048 : Shape := ⟨3, ![8, 2048, 2048]⟩
abbrev S2048 : Shape := ⟨1, ![2048]⟩
abbrev S8x1x2048 : Shape := ⟨3, ![8, 1, 2048]⟩
abbrev S2048x4608 : Shape := ⟨2, ![2048, 4608]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x4608 : Shape := ⟨3, ![8, 2048, 4608]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x4608, .bf16⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x1x2048, .f32⟩
  | .hbm, ⟨23, _⟩ => ⟨S8x1x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S2048x4608, .f32⟩
  | .hbm, ⟨29, _⟩ => ⟨S8x2048x4608, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel3.lean ====
abbrev S8x2048x512 : Shape := ⟨3, ![8, 2048, 512]⟩
abbrev S8x2048x1024 : Shape := ⟨3, ![8, 2048, 1024]⟩
abbrev S2048x2048 : Shape := ⟨2, ![2048, 2048]⟩
abbrev S8x2048x2048 : Shape := ⟨3, ![8, 2048, 2048]⟩
abbrev S8x1x2048 : Shape := ⟨3, ![8, 1, 2048]⟩
abbrev S512x2048 : Shape := ⟨2, ![512, 2048]⟩
abbrev S1024x2048 : Shape := ⟨2, ![1024, 2048]⟩
abbrev S1x1024x512 : Shape := ⟨3, ![1, 1024, 512]⟩
abbrev S1x1024x1024 : Shape := ⟨3, ![1, 1024, 1024]⟩
abbrev S512x512 : Shape := ⟨2, ![512, 512]⟩
abbrev S1024x512 : Shape := ⟨2, ![1024, 512]⟩
abbrev S1x1x512 : Shape := ⟨3, ![1, 1, 512]⟩
abbrev S1024x1024 : Shape := ⟨2, ![1024, 1024]⟩
abbrev S1x512 : Shape := ⟨2, ![1, 512]⟩

abbrev nBuf : Space → Nat
  | .hbm => 10
  | .vmem => 18
  | .smem => 0
  | _ => 0

abbrev bufTy : (tb : Table) → Fin (tcTables nBuf tb) → BufTy
  | .hbm, ⟨0, _⟩ => ⟨S8x2048x512, .bf16⟩
  | .hbm, ⟨1, _⟩ => ⟨S8x2048x1024, .bf16⟩
  | .hbm, ⟨2, _⟩ => ⟨S8x2048x512, .bf16⟩
  | .hbm, ⟨3, _⟩ => ⟨S2048x2048, .bf16⟩
  | .hbm, ⟨4, _⟩ => ⟨S8x2048x2048, .f32⟩
  | .hbm, ⟨5, _⟩ => ⟨S8x1x2048, .f32⟩
  | .hbm, ⟨6, _⟩ => ⟨S512x2048, .bf16⟩
  | .hbm, ⟨7, _⟩ => ⟨S1024x2048, .bf16⟩
  | .hbm, ⟨8, _⟩ => ⟨S512x2048, .bf16⟩
  | .hbm, ⟨9, _⟩ => ⟨S8x2048x2048, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S512x512, .bf16⟩
  | .local _ .vmem, ⟨7, _⟩ => ⟨S512x512, .bf16⟩
  | .local _ .vmem, ⟨8, _⟩ => ⟨S1024x512, .bf16⟩
  | .local _ .vmem, ⟨9, _⟩ => ⟨S1024x512, .bf16⟩
  | .local _ .vmem, ⟨10, _⟩ => ⟨S512x512, .bf16⟩
  | .local _ .vmem, ⟨11, _⟩ => ⟨S512x512, .bf16⟩
  | .local _ .vmem, ⟨12, _⟩ => ⟨S1x1024x512, .f32⟩
  | .local _ .vmem, ⟨13, _⟩ => ⟨S1x1024x512, .f32⟩
  | .local _ .vmem, ⟨14, _⟩ => ⟨S1x1x512, .f32⟩
  | .local _ .vmem, ⟨15, _⟩ => ⟨S1x1x512, .f32⟩
  | .local _ .vmem, ⟨16, _⟩ => ⟨S1x1024x512, .f32⟩
  | .local _ .vmem, ⟨17, _⟩ => ⟨S1x1024x512, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference3Ideal.lean ====
abbrev S8x2048x512 : Shape := ⟨3, ![8, 2048, 512]⟩
abbrev S8x2048x1024 : Shape := ⟨3, ![8, 2048, 1024]⟩
abbrev S2048x2048 : Shape := ⟨2, ![2048, 2048]⟩
abbrev S8x2048x2048 : Shape := ⟨3, ![8, 2048, 2048]⟩
abbrev S8x1x2048 : Shape := ⟨3, ![8, 1, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x1024, .bf16⟩
  | .hbm, ⟨2, _⟩ => ⟨S8x2048x512, .bf16⟩
  | .hbm, ⟨3, _⟩ => ⟨S2048x2048, .bf16⟩
  | .hbm, ⟨4, _⟩ => ⟨S8x2048x2048, .f32⟩
  | .hbm, ⟨5, _⟩ => ⟨S8x1x2048, .f32⟩
  | .hbm, ⟨6, _⟩ => ⟨S8x2048x2048, .bf16⟩
  | .hbm, ⟨7, _⟩ => ⟨S8x2048x2048, .f32⟩
  | .hbm, ⟨8, _⟩ => ⟨S2048x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel4.lean ====
abbrev S8x2048x2048 : Shape := ⟨3, ![8, 2048, 2048]⟩
abbrev S2048 : Shape := ⟨1, ![2048]⟩
abbrev S8x1x2048 : Shape := ⟨3, ![8, 1, 2048]⟩
abbrev S2048x2048 : Shape := ⟨2, ![2048, 2048]⟩
abbrev S1x2048 : Shape := ⟨2, ![1, 2048]⟩
abbrev S1x1024x2048 : Shape := ⟨3, ![1, 1024, 2048]⟩
abbrev S1x1x2048 : Shape := ⟨3, ![1, 1, 2048]⟩
abbrev S2048x512 : Shape := ⟨2, ![2048, 512]⟩
abbrev S1x1024x512 : Shape := ⟨3, ![1, 1024, 512]⟩
abbrev S1x2048x1024 : Shape := ⟨3, ![1, 2048, 1024]⟩
abbrev S2x1024x2048 : Shape := ⟨3, ![2, 1024, 2048]⟩
abbrev S1024x2048 : Shape := ⟨2, ![1024, 2048]⟩
abbrev S1024 : Shape := ⟨1, ![1024]⟩
abbrev S1024x1 : Shape := ⟨2, ![1024, 1]⟩
abbrev S2048x1024 : Shape := ⟨2, ![2048, 1024]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x2048, .bf16⟩
  | .hbm, ⟨5, _⟩ => ⟨S1x2048, .f32⟩
  | .hbm, ⟨6, _⟩ => ⟨S8x2048x2048, .f32⟩
  | .hbm, ⟨7, _⟩ => ⟨S8x2048x2048, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x1024x512, .f32⟩
  | .local _ .vmem, ⟨10, _⟩ => ⟨S1x1024x512, .f32⟩
  | .local _ .vmem, ⟨11, _⟩ => ⟨S1x2048x1024, .bf16⟩
  | .local _ .vmem, ⟨12, _⟩ => ⟨S1x2048x1024, .bf16⟩
  | .local _ .vmem, ⟨13, _⟩ => ⟨S2x1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![17, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c3_i32 : BitVec 32 := 3#32
  let v1 : BitVec 1 := Scalar.cmpi .eq arg1 c3_i32
  let v2 : BitVec 1 := Scalar.andi v0 v1
  let v3 : BitVec 32 := Scalar.extui v2
  let c0_i32_0 : BitVec 32 := 0#32
  let v4 : BitVec 1 := Scalar.cmpi .ne v3 c0_i32_0
  v4

def k0_off1 (i : grid0.Coords) : Fin 3 → Nat :=
  let arg0 : BitVec 32 := BitVec.ofNat 32 (i 0).val
  let c2_i32 : BitVec 32 := 2#32
  let c0_i32_19 : BitVec 32 := 0#32
  let v44 : BitVec 1 := Scalar.cmpi .eq c2_i32 c0_i32_19
  let c1_i32 : BitVec 32 := 1#32
  let v45 : BitVec 32 := Scalar.select v44 c1_i32 c2_i32
  let v46 : BitVec 32 := Scalar.remsi arg0 v45
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let c0_i32_20 : BitVec 32 := 0#32
  let v47 : BitVec 1 := Scalar.cmpi .ne v46 c0_i32_20
  let v51 : BitVec 1 := Scalar.andi v50 v47
  let v52 : BitVec 32 := Scalar.addi v46 v45
  let v53 : BitVec 32 := Scalar.select v51 v52 v46
  let v54 : Index := Scalar.indexCast v53
  let c0_23 : Index := 0#32
  let c0_24 : Index := 0#32
  ![v54.toNat, 0, 0]
def k0_cond2 (i : grid0.Coords) : BitVec 1 :=
  let arg0 : BitVec 32 := BitVec.ofNat 32 (i 0).val
  let c0_i32_3 : BitVec 32 := 0#32
  let v10 : BitVec 1 := Scalar.cmpi .sgt arg0 c0_i32_3
  let c0_i32_1 : BitVec 32 := 0#32
  let v5 : BitVec 1 := Scalar.cmpi .sgt arg0 c0_i32_1
  let c16_i32 : BitVec 32 := 16#32
  let v6 : BitVec 1 := Scalar.cmpi .slt arg0 c16_i32
  let v7 : BitVec 1 := Scalar.andi v5 v6
  let arg1 : BitVec 32 := BitVec.ofNat 32 (i 1).val
  let c3_i32_2 : BitVec 32 := 3#32
  let v8 : BitVec 1 := Scalar.cmpi .eq arg1 c3_i32_2
  let v9 : BitVec 1 := Scalar.andi v7 v8
  let v_true : BitVec 1 := 1#1
  let v11 : BitVec 1 := Scalar.xori v9 v_true
  let v12 : BitVec 1 := Scalar.andi v10 v11
  let v13 : BitVec 32 := Scalar.extui v12
  let c0_i32_4 : BitVec 32 := 0#32
  let v14 : BitVec 1 := Scalar.cmpi .ne v13 c0_i32_4
  v14

def k0_off2 (i : grid0.Coords) : Fin 3 → Nat :=
  let arg0 : BitVec 32 := BitVec.ofNat 32 (i 0).val
  let c1_i32 : BitVec 32 := 1#32
  let v17 : BitVec 32 := Scalar.addi arg0 c1_i32
  let c2_i32 : BitVec 32 := 2#32
  let c0_i32_6 : BitVec 32 := 0#32
  let v18 : BitVec 1 := Scalar.cmpi .eq c2_i32 c0_i32_6
  let c1_i32_7 : BitVec 32 := 1#32
  let v19 : BitVec 32 := Scalar.select v18 c1_i32_7 c2_i32
  let v20 : BitVec 32 := Scalar.remsi v17 v19
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let c0_i32_8 : BitVec 32 := 0#32
  let v21 : BitVec 1 := Scalar.cmpi .ne v20 c0_i32_8
  let v25 : BitVec 1 := Scalar.andi v24 v21
  let v26 : BitVec 32 := Scalar.addi v20 v19
  let v27 : BitVec 32 := Scalar.select v25 v26 v20
  let v28 : Index := Scalar.indexCast v27
  let c0 : Index := 0#32
  let c0_11 : Index := 0#32
  ![v28.toNat, 0, 0]
def k0_cond3 (i : grid0.Coords) : BitVec 1 :=
  let arg0 : BitVec 32 := BitVec.ofNat 32 (i 0).val
  let c0_i32_1 : BitVec 32 := 0#32
  let v5 : BitVec 1 := Scalar.cmpi .sgt arg0 c0_i32_1
  let c16_i32 : BitVec 32 := 16#32
  let v6 : BitVec 1 := Scalar.cmpi .slt arg0 c16_i32
  let v7 : BitVec 1 := Scalar.andi v5 v6
  let arg1 : BitVec 32 := BitVec.ofNat 32 (i 1).val
  let c3_i32_2 : BitVec 32 := 3#32
  let v8 : BitVec 1 := Scalar.cmpi .eq arg1 c3_i32_2
  let v9 : BitVec 1 := Scalar.andi v7 v8
  let v15 : BitVec 32 := Scalar.extui v9
  let c0_i32_5 : BitVec 32 := 0#32
  let v16 : BitVec 1 := Scalar.cmpi .ne v15 c0_i32_5
  v16

def k0_off3 (i : grid0.Coords) : Fin 3 → Nat :=
  let arg0 : BitVec 32 := BitVec.ofNat 32 (i 0).val
  let c1_i32 : BitVec 32 := 1#32
  let v17 : BitVec 32 := Scalar.addi arg0 c1_i32
  let c2_i32 : BitVec 32 := 2#32
  let c0_i32_6 : BitVec 32 := 0#32
  let v18 : BitVec 1 := Scalar.cmpi .eq c2_i32 c0_i32_6
  let c1_i32_7 : BitVec 32 := 1#32
  let v19 : BitVec 32 := Scalar.select v18 c1_i32_7 c2_i32
  let v20 : BitVec 32 := Scalar.remsi v17 v19
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let c0_i32_8 : BitVec 32 := 0#32
  let v21 : BitVec 1 := Scalar.cmpi .ne v20 c0_i32_8
  let v25 : BitVec 1 := Scalar.andi v24 v21
  let v26 : BitVec 32 := Scalar.addi v20 v19
  let v27 : BitVec 32 := Scalar.select v25 v26 v20
  let v28 : Index := Scalar.indexCast v27
  let c0 : Index := 0#32
  let c0_11 : Index := 0#32
  ![v28.toNat, 0, 0]
def k0_off4 (i : grid0.Coords) : Fin 3 → Nat :=
  let arg0 : BitVec 32 := BitVec.ofNat 32 (i 0).val
  let c2_i32_32 : BitVec 32 := 2#32
  let c0_i32_33 : BitVec 32 := 0#32
  let v63 : BitVec 1 := Scalar.cmpi .eq c2_i32_32 c0_i32_33
  let c1_i32_34 : BitVec 32 := 1#32
  let v64 : BitVec 32 := Scalar.select v63 c1_i32_34 c2_i32_32
  let v65 : BitVec 32 := Scalar.remsi arg0 v64
  let c0_i32_36 : BitVec 32 := 0#32
  let v67 : BitVec 1 := Scalar.cmpi .slt v65 c0_i32_36
  let c0_i32_37 : BitVec 32 := 0#32
  let v68 : BitVec 1 := Scalar.cmpi .slt v64 c0_i32_37
  let v69 : BitVec 1 := Scalar.xori v67 v68
  let c0_i32_35 : BitVec 32 := 0#32
  let v66 : BitVec 1 := Scalar.cmpi .ne v65 c0_i32_35
  let v70 : BitVec 1 := Scalar.andi v69 v66
  let v71 : BitVec 32 := Scalar.addi v65 v64
  let v72 : BitVec 32 := Scalar.select v70 v71 v65
  let v73 : Index := Scalar.indexCast v72
  let c0_38 : Index := 0#32
  let c0_39 : Index := 0#32
  ![v73.toNat, 0, 0]
def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let v31 : BitVec 1 := Scalar.cmpi .eq arg0 c0_i32_14
  let c0_i32_15 : BitVec 32 := 0#32
  let v32 : BitVec 32 := Scalar.select v31 c0_i32_15 arg1
  let c0_i32_16 : BitVec 32 := 0#32
  ![v18.toNat, v30.toNat, v32.toNat]

def cc0_transform_6 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S8x2048x2048 : Shape := ⟨3, ![8, 2048, 2048]⟩
abbrev S2048 : Shape := ⟨1, ![2048]⟩
abbrev S8x1x2048 : Shape := ⟨3, ![8, 1, 2048]⟩
abbrev S2048x2048 : Shape := ⟨2, ![2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x2048, .bf16⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x1x2048, .f32⟩
  | .hbm, ⟨23, _⟩ => ⟨S8x1x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S2048x2048, .f32⟩
  | .hbm, ⟨29, _⟩ => ⟨S8x2048x2048, .f32⟩
  | .hbm, ⟨30, _⟩ => ⟨S8x2048x2048, .f32⟩
  | .hbm, ⟨31, _⟩ => ⟨S8x2048x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel5.lean ====
abbrev S8x2048x4608 : Shape := ⟨3, ![8, 2048, 4608]⟩
abbrev S8x256x4608 : Shape := ⟨3, ![8, 256, 4608]⟩
abbrev S64 : Shape := ⟨1, ![64]⟩
abbrev S4x64 : Shape := ⟨2, ![4, 64]⟩
abbrev S128 : Shape := ⟨1, ![128]⟩
abbrev S2 : Shape := ⟨1, ![2]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x32x2 : Shape := ⟨3, ![2048, 32, 2]⟩
abbrev S2048x64 : Shape := ⟨2, ![2048, 64]⟩
abbrev S1x2 : Shape := ⟨2, ![1, 2]⟩
abbrev S32x2 : Shape := ⟨2, ![32, 2]⟩
abbrev S1x64 : Shape := ⟨2, ![1, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S2x64 : Shape := ⟨2, ![2, 64]⟩
abbrev S1x128 : Shape := ⟨2, ![1, 128]⟩
abbrev S8x2048x512 : Shape := ⟨3, ![8, 2048, 512]⟩
abbrev S1x1024x128 : Shape := ⟨3, ![1, 1024, 128]⟩
abbrev S1x256x128 : Shape := ⟨3, ![1, 256, 128]⟩
abbrev S1x2048x128 : Shape := ⟨3, ![1, 2048, 128]⟩
abbrev S1024x128 : Shape := ⟨2, ![1024, 128]⟩
abbrev S2304x128 : Shape := ⟨2, ![2304, 128]⟩
abbrev S256x128 : Shape := ⟨2, ![256, 128]⟩
abbrev S256 : Shape := ⟨1, ![256]⟩
abbrev S256x1 : Shape := ⟨2, ![256, 1]⟩
abbrev S1 : Shape := ⟨1, ![1]⟩
abbrev S1x1 : Shape := ⟨2, ![1, 1]⟩
abbrev S256x2304 : Shape := ⟨2, ![256, 2304]⟩

abbrev nBuf : Space → Nat
  | .hbm => 103
  | .vmem => 24
  | .smem => 0
  | _ => 0

abbrev bufTy : (tb : Table) → Fin (tcTables nBuf tb) → BufTy
  | .hbm, ⟨0, _⟩ => ⟨S8x2048x4608, .f32⟩
  | .hbm, ⟨1, _⟩ => ⟨S8x256x4608, .f32⟩
  | .hbm, ⟨2, _⟩ => ⟨S64, .f32⟩
  | .hbm, ⟨3, _⟩ => ⟨S64, .f32⟩
  | .hbm, ⟨4, _⟩ => ⟨S4x64, .f32⟩
  | .hbm, ⟨5, _⟩ => ⟨S128, .f32⟩
  | .hbm, ⟨6, _⟩ => ⟨S2, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048, .f32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S_, .i32⟩
  | .hbm, ⟨42, _⟩ => ⟨S_, .i1⟩
  | .hbm, ⟨43, _⟩ => ⟨S2048, .i1⟩
  | .hbm, ⟨44, _⟩ => ⟨S2048, .i1⟩
  | .hbm, ⟨45, _⟩ => ⟨S2048, .i1⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S2048, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S2048x1, .f32⟩
  | .hbm, ⟨65, _⟩ => ⟨S1x16, .f32⟩
  | .hbm, ⟨66, _⟩ => ⟨S2048x16, .f32⟩
  | .hbm, ⟨67, _⟩ => ⟨S2048x16, .f32⟩
  | .hbm, ⟨68, _⟩ => ⟨S2048x16, .f32⟩
  | .hbm, ⟨69, _⟩ => ⟨S2048x1, .f32⟩
  | .hbm, ⟨70, _⟩ => ⟨S1x16, .f32⟩
  | .hbm, ⟨71, _⟩ => ⟨S2048x16, .f32⟩
  | .hbm, ⟨72, _⟩ => ⟨S2048x16, .f32⟩
  | .hbm, ⟨73, _⟩ => ⟨S2048x16, .f32⟩
  | .hbm, ⟨74, _⟩ => ⟨S2048x32, .f32⟩
  | .hbm, ⟨75, _⟩ => ⟨S2048x32, .f32⟩
  | .hbm, ⟨76, _⟩ => ⟨S2048x32x2, .f32⟩
  | .hbm, ⟨77, _⟩ => ⟨S2048x64, .f32⟩
  | .hbm, ⟨78, _⟩ => ⟨S2048x32, .f32⟩
  | .hbm, ⟨79, _⟩ => ⟨S2048x32x2, .f32⟩
  | .hbm, ⟨80, _⟩ => ⟨S2048x64, .f32⟩
  | .hbm, ⟨81, _⟩ => ⟨S1x2, .f32⟩
  | .hbm, ⟨82, _⟩ => ⟨S32x2, .f32⟩
  | .hbm, ⟨83, _⟩ => ⟨S64, .f32⟩
  | .hbm, ⟨84, _⟩ => ⟨S1x64, .f32⟩
  | .hbm, ⟨85, _⟩ => ⟨S2048x64, .f32⟩
  | .hbm, ⟨86, _⟩ => ⟨S2048x64, .f32⟩
  | .hbm, ⟨87, _⟩ => ⟨S1x2048x1x64, .f32⟩
  | .hbm, ⟨88, _⟩ => ⟨S1x2048x2x64, .f32⟩
  | .hbm, ⟨89, _⟩ => ⟨S2048x128, .f32⟩
  | .hbm, ⟨90, _⟩ => ⟨S1x2048x1x64, .f32⟩
  | .hbm, ⟨91, _⟩ => ⟨S1x2048x2x64, .f32⟩
  | .hbm, ⟨92, _⟩ => ⟨S2048x128, .f32⟩
  | .hbm, ⟨93, _⟩ => ⟨S1x64, .f32⟩
  | .hbm, ⟨94, _⟩ => ⟨S2x64, .f32⟩
  | .hbm, ⟨95, _⟩ => ⟨S128, .f32⟩
  | .hbm, ⟨96, _⟩ => ⟨S1x128, .f32⟩
  | .hbm, ⟨97, _⟩ => ⟨S1x64, .f32⟩
  | .hbm, ⟨98, _⟩ => ⟨S2x64, .f32⟩
  | .hbm, ⟨99, _⟩ => ⟨S128, .f32⟩
  | .hbm, ⟨100, _⟩ => ⟨S1x128, .f32⟩
  | .hbm, ⟨101, _⟩ => ⟨S1x128, .f32⟩
  | .hbm, ⟨102, _⟩ => ⟨S8x2048x512, .bf16⟩
  | .local _ .vmem, ⟨0, _⟩ => ⟨S4x64, .f32⟩
  | .local _ .vmem, ⟨1, _⟩ => ⟨S1x1024x128, .f32⟩
  | .local _ .vmem, ⟨2, _⟩ => ⟨S1x1024x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S2048x128, .f32⟩
  | .local _ .vmem, ⟨16, _⟩ => ⟨S2048x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x1024x128, .bf16⟩
  | .local _ .vmem, ⟨21, _⟩ => ⟨S1x1024x128, .bf16⟩
  | .local _ .vmem, ⟨22, _⟩ => ⟨S2304x128, .bf16⟩
  | .local _ .vmem, ⟨23, _⟩ => ⟨S2304x128, .bf16⟩
  | _, _ => ⟨S8x2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_cst_1 : Ref sig .tc := ⟨.hbm, 51, rfl⟩
abbrev main_v6 : Ref sig .tc := ⟨.hbm, 52, rfl⟩
abbrev main_v7 : Ref sig .tc := ⟨.hbm, 53, rfl⟩
abbrev main_cst_2 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_cst_3 : Ref sig .tc := ⟨.hbm, 58, rfl⟩
abbrev main_v11 : Ref sig .tc := ⟨.hbm, 59, rfl⟩
abbrev main_v12 : Ref sig .tc := ⟨.hbm, 60, rfl⟩
abbrev main_cst_4 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi c22_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi c22_i32 arg1
  let c0_i32 : BitVec 32 := 0#32
  let c0_i32_0 : BitVec 32 := 0#32
  ![arg0.toNat, c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 2 → Memref sig .tc .vmem S1x1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== Kernel5Ideal.lean ====
variable {F : FTy → Type} [FloatOps F] [Named F]
def κ : String → Option EReal := fun
  | "diff_scale" => some ((8⁻¹ * (Real.log 2)⁻¹ : ℝ) : EReal)
  | _ => none
-- ==== Reference5Ideal.lean ====
abbrev S8x2048x4608 : Shape := ⟨3, ![8, 2048, 4608]⟩
abbrev S8x256x4608 : Shape := ⟨3, ![8, 256, 4608]⟩
abbrev S64 : Shape := ⟨1, ![64]⟩
abbrev S4x64 : Shape := ⟨2, ![4, 64]⟩
abbrev S128 : Shape := ⟨1, ![128]⟩
abbrev S1x64 : Shape := ⟨2, ![1, 64]⟩
abbrev S_ : Shape := ⟨0, ![]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S8x2048x512 : Shape := ⟨3, ![8, 2048, 512]⟩
abbrev S8x2048x4x2x64 : Shape := ⟨5, ![8, 2048, 4, 2, 64]⟩
abbrev S8x4x2x2048x64 : Shape := ⟨5, ![8, 4, 2, 2048, 64]⟩
abbrev S8x4x2x2048 : Shape := ⟨4, ![8, 4, 2, 2048]⟩
abbrev S8x4x2x2048x1 : Shape := ⟨5, ![8, 4, 2, 2048, 1]⟩
abbrev S1x1x1x1x64 : Shape := ⟨5, ![1, 1, 1, 1, 64]⟩
abbrev S8x4x2x2048x32 : Shape := ⟨5, ![8, 4, 2, 2048, 32]⟩
abbrev S1x1x1x2048x32 : Shape := ⟨5, ![1, 1, 1, 2048, 32]⟩
abbrev S8x4x2x2048x32x1 : Shape := ⟨6, ![8, 4, 2, 2048, 32, 1]⟩
abbrev S8x4x2x2048x32x2 : Shape := ⟨6, ![8, 4, 2, 2048, 32, 2]⟩
abbrev S8x2048x4x128 : Shape := ⟨4, ![8, 2048, 4, 128]⟩
abbrev S8x4x2048x128 : Shape := ⟨4, ![8, 4, 2048, 128]⟩
abbrev S8x256x512 : Shape := ⟨3, ![8, 256, 512]⟩
abbrev S8x256x4x2x64 : Shape := ⟨5, ![8, 256, 4, 2, 64]⟩
abbrev S8x4x2x256x64 : Shape := ⟨5, ![8, 4, 2, 256, 64]⟩
abbrev S8x4x2x256 : Shape := ⟨4, ![8, 4, 2, 256]⟩
abbrev S8x4x2x256x1 : Shape := ⟨5, ![8, 4, 2, 256, 1]⟩
abbrev S8x256x4x128 : Shape := ⟨4, ![8, 256, 4, 128]⟩
abbrev S8x4x256x128 : Shape := ⟨4, ![8, 4, 256, 128]⟩
abbrev S8x4x2x2304x64 : Shape := ⟨5, ![8, 4, 2, 2304, 64]⟩
abbrev S8x4x2304x128 : Shape := ⟨4, ![8, 4, 2304, 128]⟩
abbrev S8x4x2x2048x2304 : Shape := ⟨5, ![8, 4, 2, 2048, 2304]⟩
abbrev S8x4x1x2048x2304 : Shape := ⟨5, ![8, 4, 1, 2048, 2304]⟩
abbrev S8x4x2048x2304 : Shape := ⟨4, ![8, 4, 2048, 2304]⟩
abbrev S8x4x2048 : Shape := ⟨3, ![8, 4, 2048]⟩
abbrev S8x4x2048x1 : Shape := ⟨4, ![8, 4, 2048, 1]⟩
abbrev S1x1x1x128 : Shape := ⟨4, ![1, 1, 1, 128]⟩

abbrev nBuf : Space → Nat
  | .hbm => 248
  | .vmem => 0
  | .smem => 0
  | _ => 0

abbrev hbmTy0_0 (i : Nat) : BufTy := match i % 128 with
  | 0 => ⟨S8x2048x4608, .f32⟩
  | 1 => ⟨S8x256x4608, .f32⟩
  | 2 => ⟨S64, .f32⟩
  | 3 => ⟨S64, .f32⟩
  | 4 => ⟨S4x64, .f32⟩
  | 5 => ⟨S128, .f32⟩
  | 6 => ⟨S1x64, .f32⟩
  | 7 => ⟨S64, .f32⟩
  | 8 => ⟨S1x64, .f32⟩
  | 9 => ⟨S64, .f32⟩
  | 10 => ⟨S64, .f32⟩
  | 11 => ⟨S_, .f32⟩
  | 12 => ⟨S_, .f32⟩
  | 13 => ⟨S_, .f32⟩
  | 14 => ⟨S1x64, .f32⟩
  | 15 => ⟨S64, .f32⟩
  | 16 => ⟨S1x64, .f32⟩
  | 17 => ⟨S64, .f32⟩
  | 18 => ⟨S64, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S2048, .i32⟩
  | 26 => ⟨S_, .i32⟩
  | 27 => ⟨S_, .i32⟩
  | 28 => ⟨S2048, .i32⟩
  | 29 => ⟨S2048, .i32⟩
  | 30 => ⟨S2048, .i32⟩
  | 31 => ⟨S_, .i32⟩
  | 32 => ⟨S2048, .i32⟩
  | 33 => ⟨S2048, .i1⟩
  | 34 => ⟨S2048, .i32⟩
  | 35 => ⟨S2048, .i32⟩
  | 36 => ⟨S_, .i32⟩
  | 37 => ⟨S2048, .i32⟩
  | 38 => ⟨S2048, .i1⟩
  | 39 => ⟨S2048, .i1⟩
  | 40 => ⟨S_, .i32⟩
  | 41 => ⟨S2048, .i32⟩
  | 42 => ⟨S2048, .i32⟩
  | 43 => ⟨S2048, .i32⟩
  | 44 => ⟨S2048, .f32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S2048, .i32⟩
  | 52 => ⟨S2048, .i32⟩
  | 53 => ⟨S_, .i32⟩
  | 54 => ⟨S2048, .i32⟩
  | 55 => ⟨S2048, .i1⟩
  | 56 => ⟨S_, .i32⟩
  | 57 => ⟨S2048, .i32⟩
  | 58 => ⟨S2048, .i1⟩
  | 59 => ⟨S_, .i32⟩
  | 60 => ⟨S_, .i1⟩
  | 61 => ⟨S2048, .i1⟩
  | 62 => ⟨S2048, .i1⟩
  | 63 => ⟨S2048, .i1⟩
  | 64 => ⟨S2048, .i32⟩
  | 65 => ⟨S2048, .i32⟩
  | 66 => ⟨S2048, .i32⟩
  | 67 => ⟨S2048, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S2048x1, .f32⟩
  | 83 => ⟨S1x16, .f32⟩
  | 84 => ⟨S2048x16, .f32⟩
  | 85 => ⟨S2048x16, .f32⟩
  | 86 => ⟨S2048x16, .f32⟩
  | 87 => ⟨S2048x1, .f32⟩
  | 88 => ⟨S1x16, .f32⟩
  | 89 => ⟨S2048x16, .f32⟩
  | 90 => ⟨S2048x16, .f32⟩
  | 91 => ⟨S2048x16, .f32⟩
  | 92 => ⟨S2048x32, .f32⟩
  | 93 => ⟨S2048x32, .f32⟩
  | 94 => ⟨S2048x32, .f32⟩
  | 95 => ⟨S8x2048x512, .f32⟩
  | 96 => ⟨S8x2048x4x2x64, .f32⟩
  | 97 => ⟨S8x4x2x2048x64, .f32⟩
  | 98 => ⟨S8x4x2x2048x64, .f32⟩
  | 99 => ⟨S_, .f32⟩
  | 100 => ⟨S8x4x2x2048, .f32⟩
  | 101 => ⟨S8x4x2x2048x1, .f32⟩
  | 102 => ⟨S_, .f32⟩
  | 103 => ⟨S8x4x2x2048x1, .f32⟩
  | 104 => ⟨S8x4x2x2048x1, .f32⟩
  | 105 => ⟨S_, .f32⟩
  | 106 => ⟨S8x4x2x2048x1, .f32⟩
  | 107 => ⟨S8x4x2x2048x1, .f32⟩
  | 108 => ⟨S8x4x2x2048x1, .f32⟩
  | 109 => ⟨S8x4x2x2048x64, .f32⟩
  | 110 => ⟨S8x4x2x2048x64, .f32⟩
  | 111 => ⟨S1x1x1x1x64, .f32⟩
  | 112 => ⟨S8x4x2x2048x64, .f32⟩
  | 113 => ⟨S8x4x2x2048x64, .f32⟩
  | 114 => ⟨S8x4x2x2048x32, .f32⟩
  | 115 => ⟨S8x4x2x2048x32, .f32⟩
  | 116 => ⟨S1x1x1x2048x32, .f32⟩
  | 117 => ⟨S8x4x2x2048x32, .f32⟩
  | 118 => ⟨S8x4x2x2048x32, .f32⟩
  | 119 => ⟨S1x1x1x2048x32, .f32⟩
  | 120 => ⟨S8x4x2x2048x32, .f32⟩
  | 121 => ⟨S8x4x2x2048x32, .f32⟩
  | 122 => ⟨S8x4x2x2048x32, .f32⟩
  | 123 => ⟨S1x1x1x2048x32, .f32⟩
  | 124 => ⟨S8x4x2x2048x32, .f32⟩
  | 125 => ⟨S8x4x2x2048x32, .f32⟩
  | 126 => ⟨S1x1x1x2048x32, .f32⟩
  | 127 => ⟨S8x4x2x2048x32, .f32⟩
  | _ => ⟨S8x2048x4608, .f32⟩

abbrev hbmTy0_1 (i : Nat) : BufTy := match i % 128 with
  | 0 => ⟨S8x4x2x2048x32, .f32⟩
  | 1 => ⟨S8x4x2x2048x32, .f32⟩
  | 2 => ⟨S8x4x2x2048x32x1, .f32⟩
  | 3 => ⟨S8x4x2x2048x32x1, .f32⟩
  | 4 => ⟨S8x4x2x2048x32x2, .f32⟩
  | 5 => ⟨S8x4x2x2048x64, .f32⟩
  | 6 => ⟨S8x2048x512, .f32⟩
  | 7 => ⟨S8x2048x4x2x64, .f32⟩
  | 8 => ⟨S8x4x2x2048x64, .f32⟩
  | 9 => ⟨S8x4x2x2048x64, .f32⟩
  | 10 => ⟨S_, .f32⟩
  | 11 => ⟨S8x4x2x2048, .f32⟩
  | 12 => ⟨S8x4x2x2048x1, .f32⟩
  | 13 => ⟨S_, .f32⟩
  | 14 => ⟨S8x4x2x2048x1, .f32⟩
  | 15 => ⟨S8x4x2x2048x1, .f32⟩
  | 16 => ⟨S_, .f32⟩
  | 17 => ⟨S8x4x2x2048x1, .f32⟩
  | 18 => ⟨S8x4x2x2048x1, .f32⟩
  | 19 => ⟨S8x4x2x2048x1, .f32⟩
  | 20 => ⟨S8x4x2x2048x64, .f32⟩
  | 21 => ⟨S8x4x2x2048x64, .f32⟩
  | 22 => ⟨S1x1x1x1x64, .f32⟩
  | 23 => ⟨S8x4x2x2048x64, .f32⟩
  | 24 => ⟨S8x4x2x2048x64, .f32⟩
  | 25 => ⟨S8x4x2x2048x32, .f32⟩
  | 26 => ⟨S8x4x2x2048x32, .f32⟩
  | 27 => ⟨S1x1x1x2048x32, .f32⟩
  | 28 => ⟨S8x4x2x2048x32, .f32⟩
  | 29 => ⟨S8x4x2x2048x32, .f32⟩
  | 30 => ⟨S1x1x1x2048x32, .f32⟩
  | 31 => ⟨S8x4x2x2048x32, .f32⟩
  | 32 => ⟨S8x4x2x2048x32, .f32⟩
  | 33 => ⟨S8x4x2x2048x32, .f32⟩
  | 34 => ⟨S1x1x1x2048x32, .f32⟩
  | 35 => ⟨S8x4x2x2048x32, .f32⟩
  | 36 => ⟨S8x4x2x2048x32, .f32⟩
  | 37 => ⟨S1x1x1x2048x32, .f32⟩
  | 38 => ⟨S8x4x2x2048x32, .f32⟩
  | 39 => ⟨S8x4x2x2048x32, .f32⟩
  | 40 => ⟨S8x4x2x2048x32, .f32⟩
  | 41 => ⟨S8x4x2x2048x32x1, .f32⟩
  | 42 => ⟨S8x4x2x2048x32x1, .f32⟩
  | 43 => ⟨S8x4x2x2048x32x2, .f32⟩
  | 44 => ⟨S8x4x2x2048x64, .f32⟩
  | 45 => ⟨S8x2048x512, .f32⟩
  | 46 => ⟨S8x2048x4x128, .f32⟩
  | 47 => ⟨S8x4x2048x128, .f32⟩
  | 48 => ⟨S8x256x512, .f32⟩
  | 49 => ⟨S8x256x4x2x64, .f32⟩
  | 50 => ⟨S8x4x2x256x64, .f32⟩
  | 51 => ⟨S8x4x2x256x64, .f32⟩
  | 52 => ⟨S_, .f32⟩
  | 53 => ⟨S8x4x2x256, .f32⟩
  | 54 => ⟨S8x4x2x256x1, .f32⟩
  | 55 => ⟨S_, .f32⟩
  | 56 => ⟨S8x4x2x256x1, .f32⟩
  | 57 => ⟨S8x4x2x256x1, .f32⟩
  | 58 => ⟨S_, .f32⟩
  | 59 => ⟨S8x4x2x256x1, .f32⟩
  | 60 => ⟨S8x4x2x256x1, .f32⟩
  | 61 => ⟨S8x4x2x256x1, .f32⟩
  | 62 => ⟨S8x4x2x256x64, .f32⟩
  | 63 => ⟨S8x4x2x256x64, .f32⟩
  | 64 => ⟨S1x1x1x1x64, .f32⟩
  | 65 => ⟨S8x4x2x256x64, .f32⟩
  | 66 => ⟨S8x4x2x256x64, .f32⟩
  | 67 => ⟨S8x256x512, .f32⟩
  | 68 => ⟨S8x256x4x128, .f32⟩
  | 69 => ⟨S8x4x256x128, .f32⟩
  | 70 => ⟨S8x4x2x2304x64, .f32⟩
  | 71 => ⟨S8x4x2304x128, .f32⟩
  | 72 => ⟨S8x4x2x2048x2304, .f32⟩
  | 73 => ⟨S_, .f32⟩
  | 74 => ⟨S8x4x2x2048x2304, .f32⟩
  | 75 => ⟨S8x4x2x2048x2304, .f32⟩
  | 76 => ⟨S_, .f32⟩
  | 77 => ⟨S8x4x2x2048, .f32⟩
  | 78 => ⟨S_, .f32⟩
  | 79 => ⟨S8x4x2x2048, .f32⟩
  | 80 => ⟨S8x4x2x2048, .f32⟩
  | 81 => ⟨S8x4x2x2048x1, .f32⟩
  | 82 => ⟨S8x4x2x2048x2304, .f32⟩
  | 83 => ⟨S8x4x2x2048x2304, .f32⟩
  | 84 => ⟨S8x4x2x2048x2304, .f32⟩
  | 85 => ⟨S_, .f32⟩
  | 86 => ⟨S8x4x2x2048, .f32⟩
  | 87 => ⟨S8x4x2x2048x1, .f32⟩
  | 88 => ⟨S8x4x2x2048x2304, .f32⟩
  | 89 => ⟨S8x4x2x2048x2304, .f32⟩
  | 90 => ⟨S8x4x1x2048x2304, .f32⟩
  | 91 => ⟨S8x4x2048x2304, .f32⟩
  | 92 => ⟨S8x4x1x2048x2304, .f32⟩
  | 93 => ⟨S8x4x2048x2304, .f32⟩
  | 94 => ⟨S8x4x2048x2304, .f32⟩
  | 95 => ⟨S8x4x2048x2304, .f32⟩
  | 96 => ⟨S8x4x2048x2304, .f32⟩
  | 97 => ⟨S8x4x2048x128, .f32⟩
  | 98 => ⟨S8x4x2048x128, .f32⟩
  | 99 => ⟨S_, .f32⟩
  | 100 => ⟨S8x4x2048, .f32⟩
  | 101 => ⟨S8x4x2048x1, .f32⟩
  | 102 => ⟨S_, .f32⟩
  | 103 => ⟨S8x4x2048x1, .f32⟩
  | 104 => ⟨S8x4x2048x1, .f32⟩
  | 105 => ⟨S_, .f32⟩
  | 106 => ⟨S8x4x2048x1, .f32⟩
  | 107 => ⟨S8x4x2048x1, .f32⟩
  | 108 => ⟨S8x4x2048x1, .f32⟩
  | 109 => ⟨S8x4x2048x128, .f32⟩
  | 110 => ⟨S8x4x2048x128, .f32⟩
  | 111 => ⟨S1x1x1x128, .f32⟩
  | 112 => ⟨S8x4x2048x128, .f32⟩
  | 113 => ⟨S8x4x2048x128, .f32⟩
  | 114 => ⟨S_, .f32⟩
  | 115 => ⟨S8x4x2048x128, .f32⟩
  | 116 => ⟨S8x4x2048x128, .f32⟩
  | 117 => ⟨S8x2048x4x128, .f32⟩
  | 118 => ⟨S8x2048x512, .f32⟩
  | 119 => ⟨S8x2048x512, .bf16⟩
  | _ => ⟨S8x2048x4608, .f32⟩

abbrev hbmTy (i : Nat) : BufTy := match i / 128 with
  | 0 => hbmTy0_0 i
  | 1 => hbmTy0_1 i
  | _ => ⟨S8x2048x4608, .f32⟩

abbrev bufTy : (tb : Table) → Fin (tcTables nBuf tb) → BufTy
  | .hbm, ⟨i, _⟩ => hbmTy i
  | _, _ => ⟨S8x2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v17 : Ref sig .tc := ⟨.hbm, 43, rfl⟩
abbrev main_v18 : Ref sig .tc := ⟨.hbm, 44, rfl⟩
abbrev main_c_2 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_cst_3 : Ref sig .tc := ⟨.hbm, 69, rfl⟩
abbrev main_v22 : Ref sig .tc := ⟨.hbm, 70, rfl⟩
abbrev main_v23 : Ref sig .tc := ⟨.hbm, 71, rfl⟩
abbrev main_cst_4 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_cst_5 : Ref sig .tc := ⟨.hbm, 76, rfl⟩
abbrev main_v27 : Ref sig .tc := ⟨.hbm, 77, rfl⟩
abbrev main_v28 : Ref sig .tc := ⟨.hbm, 78, rfl⟩
abbrev main_cst_6 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_cst_7 : Ref sig .tc := ⟨.hbm, 99, rfl⟩
abbrev main_v48 : Ref sig .tc := ⟨.hbm, 100, rfl⟩
abbrev main_v49 : Ref sig .tc := ⟨.hbm, 101, rfl⟩
abbrev main_cst_8 : Ref sig .tc := ⟨.hbm, 102, rfl⟩
abbrev main_v50 : Ref sig .tc := ⟨.hbm, 103, rfl⟩
abbrev main_v51 : Ref sig .tc := ⟨.hbm, 104, rfl⟩
abbrev main_cst_9 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_10 : Ref sig .tc := ⟨.hbm, 138, rfl⟩
abbrev main_v84 : Ref sig .tc := ⟨.hbm, 139, rfl⟩
abbrev main_v85 : Ref sig .tc := ⟨.hbm, 140, rfl⟩
abbrev main_cst_11 : Ref sig .tc := ⟨.hbm, 141, rfl⟩
abbrev main_v86 : Ref sig .tc := ⟨.hbm, 142, rfl⟩
abbrev main_v87 : Ref sig .tc := ⟨.hbm, 143, rfl⟩
abbrev main_cst_12 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_13 : Ref sig .tc := ⟨.hbm, 180, rfl⟩
abbrev main_v123 : Ref sig .tc := ⟨.hbm, 181, rfl⟩
abbrev main_v124 : Ref sig .tc := ⟨.hbm, 182, rfl⟩
abbrev main_cst_14 : Ref sig .tc := ⟨.hbm, 183, rfl⟩
abbrev main_v125 : Ref sig .tc := ⟨.hbm, 184, rfl⟩
abbrev main_v126 : Ref sig .tc := ⟨.hbm, 185, rfl⟩
abbrev main_cst_15 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_cst_16 : Ref sig .tc := ⟨.hbm, 201, rfl⟩
abbrev main_v141 : Ref sig .tc := ⟨.hbm, 202, rfl⟩
abbrev main_v142 : Ref sig .tc := ⟨.hbm, 203, rfl⟩
abbrev main_cst_17 : Ref sig .tc := ⟨.hbm, 204, rfl⟩
abbrev main_v143 : Ref sig .tc := ⟨.hbm, 205, rfl⟩
abbrev main_cst_18 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_cst_19 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_cst_20 : Ref sig .tc := ⟨.hbm, 227, rfl⟩
abbrev main_v163 : Ref sig .tc := ⟨.hbm, 228, rfl⟩
abbrev main_v164 : Ref sig .tc := ⟨.hbm, 229, rfl⟩
abbrev main_cst_21 : Ref sig .tc := ⟨.hbm, 230, rfl⟩
abbrev main_v165 : Ref sig .tc := ⟨.hbm, 231, rfl⟩
abbrev main_v166 : Ref sig .tc := ⟨.hbm, 232, rfl⟩
abbrev main_cst_22 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_cst_23 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩

abbrev nD : Nat := 1
abbrev τ : Topo := Topo.v7x

variable {F : FTy → Type} [FloatOps F]
-- ==== Proof.Scalar.lean ====
module
public import Idealize.ShloMosaic.PureOps.Ideal
@[expose] public section
noncomputable section
open Idealize.ShloMosaic
namespace Cert.Attn

/-- The number of lanes of a head, as the float literal both programs divide by. -/
abbrev lanes : EReal := Ideal.ofBits FTy.f32 0x43000000#32
/-- The small number added to a mean square. -/
abbrev eps : EReal := Ideal.ofBits FTy.f32 0x358637BD#32

/-- A row of 128 numbers scaled by the reciprocal root of its mean square and by a gain per lane. -/
def rms (x g : Fin 128 → EReal) (d : Fin 128) : EReal :=
  x d * Ideal.rsqrt (Ideal.div (∑ e, x e * x e) lanes + eps) * g d

/-- A row rotated pairwise: each lane times its cosine, plus the other lane of its pair times its signed sine. -/
def rot (z c s : Fin 128 → EReal) (d : Fin 128) : EReal :=
  z d * c d + (if d.val % 2 = 0 then z ⟨(d.val + 128 - 127) % 128, by omega⟩ else z ⟨(d.val + 128 - 1) % 128, by omega⟩) * s d

/-- The score of a query against a key. -/
def score (q : Fin 128 → EReal) (K : Fin 2304 → Fin 128 → EReal) (j : Fin 2304) : EReal := ∑ e, q e * K j e

/-- The largest score of a query. -/
def top (f : Fin 2304 → EReal) : EReal := Finset.fold max ⊥ f Finset.univ

/-- Base-two attention of one query: powers of two of the scores less the largest, their weighted sum of
the values divided by their sum. -/
def attend2 (q : Fin 128 → EReal) (K V : Fin 2304 → Fin 128 → EReal) (d : Fin 128) : EReal :=
  (∑ j, Ideal.exp2 (score q K j - top (score q K)) * V j d) *
    Ideal.div 1 (∑ j, Ideal.exp2 (score q K j - top (score q K)))

/-- The rotation as the plain code writes it: the pair `(x, y)` of lanes `2i`, `2i+1` becomes
`(x cos − y sin, x sin + y cos)`, from the pair's angle. -/
def rotR (z : Fin 128 → EReal) (A : Fin 64 → EReal) (d : Fin 128) : EReal :=
  if d.val % 2 < 1 then z ⟨2 * (d.val / 2), by omega⟩ * Ideal.cos (A ⟨d.val / 2, by omega⟩) -
      z ⟨1 + 2 * (d.val / 2), by omega⟩ * Ideal.sin (A ⟨d.val / 2, by omega⟩)
  else z ⟨2 * (d.val / 2), by omega⟩ * Ideal.sin (A ⟨d.val / 2, by omega⟩) +
      z ⟨1 + 2 * (d.val / 2), by omega⟩ * Ideal.cos (A ⟨d.val / 2, by omega⟩)

/-- A score divided by the root of the number of lanes. -/
def scoreR (q : Fin 128 → EReal) (K : Fin 2304 → Fin 128 → EReal) (j : Fin 2304) : EReal :=
  Ideal.div (score q K j) (Ideal.sqrt lanes)

/-- The exponential of a score less the largest. -/
def expR (q : Fin 128 → EReal) (K : Fin 2304 → Fin 128 → EReal) (j : Fin 2304) : EReal :=
  Ideal.exp (scoreR q K j - max ⊥ (top (scoreR q K)))

/-- Attention of one query as the plain code writes it: the softmax's weights, then their sum with the values. -/
def attendE (q : Fin 128 → EReal) (K V : Fin 2304 → Fin 128 → EReal) (d : Fin 128) : EReal :=
  ∑ j, Ideal.div (expR q K j) (∑ i, expR q K i) * V j d

/-- One of four things, by number. -/
def pick {A : Type} (x0 x1 x2 x3 : A) (h : ℕ) : A := if h = 0 then x0 else if h = 1 then x1 else if h = 2 then x2 else x3

end Cert.Attn
-- ==== Proof.Block.lean ====
module
public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.Scalar
@[expose] public section
set_option maxRecDepth 16384
noncomputable section
open Idealize.ShloMosaic Idealize.ShloMosaic.TcCoe Idealize.SL.Sem
open Idealize.ShloMosaic.Pipeline (Dat)
namespace Cert.KernelIdeal.Attn
open Cert.KernelIdeal Cert.KernelIdeal.Gen Cert.Attn
variable (m : (ℓ : Loc nD τ sig) → Buf (Elt Ideal) ℓ)

/-- The parity test of a lane, read as a condition on its number. -/
theorem select_parity {A : Type} (d : Fin 128) (x y : A) :
    Scalar.select (IntOp.cmpi CmpIPredicate.eq (IntOp.andi (BitVec.ofNat 32 d.val) 1#32) 0#32) x y =
      if d.val % 2 = 0 then x else y := by
  have h : IntOp.cmpi CmpIPredicate.eq (IntOp.andi (BitVec.ofNat 32 d.val) 1#32) 0#32 = if d.val % 2 = 0 then 1#1 else 0#1 := by
    revert d; decide +kernel
  rw [h]; split <;> rfl

/-- The score scale, named in the kernel. -/
abbrev qscale : EReal := Named.named (F := Ideal) κ "qk_scale" (φ := FTy.f32) 0x3E0293EE#32

/-- The literal a maximum starts from is the least number. -/
theorem ofBits_bot : Ideal.ofBits FTy.f32 0xFF800000#32 = ⊥ := by
  simp [Ideal.ofBits, Ideal.ieee]

/-- What one block of the result holds, from the keys and values of its scratches, the four heads' query blocks,
the query gain and the tables' rows. -/
def blockOut (K V : Vec Ideal S2304x128 .bf16) (X0 X1 X2 X3 : Vec Ideal S1x1024x128 .f32) (c s : Vec Ideal S1024x128 .f32)
    (g : Vec Ideal S1x128 .f32) (y : S1x1024x512.Idx) : EReal :=
  attend2 (fun e => rot (rms (fun e => pick X0 X1 X2 X3 ((y 2).val / 128) (ix3 0 (y 1) e)) fun e => g (ix2 0 e))
      (fun e => c (ix2 (y 1) e)) (fun e => s (ix2 (y 1) e)) e * qscale)
    (fun j e => K (ix2 j e)) (fun j e => V (ix2 j e)) ⟨(y 2).val % 128, by omega⟩

/-- What the key scratch holds: the context's normalised keys, then the latent ones, normalised and rotated. -/
def kScr (x4 : Vec Ideal S1x256x128 .f32) (x6 : Vec Ideal S1x2048x128 .f32) (c s : Vec Ideal S2048x128 .f32)
    (g : Vec Ideal S1x128 .f32) (y : S2304x128.Idx) : EReal :=
  if h : (y 0).val < 256 then rms (fun e => x4 (ix3 0 ⟨(y 0).val, h⟩ e)) (fun e => g (ix2 0 e)) (y 1)
  else rot (rms (fun e => x6 (ix3 0 ⟨(y 0).val - 256, by have : (y 0).val < 2304 := (y 0).isLt; omega⟩ e)) fun e => g (ix2 0 e))
    (fun e => c (ix2 ⟨(y 0).val - 256, by have : (y 0).val < 2304 := (y 0).isLt; omega⟩ e))
    (fun e => s (ix2 ⟨(y 0).val - 256, by have : (y 0).val < 2304 := (y 0).isLt; omega⟩ e)) (y 1)

/-- What the value scratch holds: the context's values, then the latent ones. -/
def vScr (x5 : Vec Ideal S1x256x128 .f32) (x7 : Vec Ideal S1x2048x128 .f32) (y : S2304x128.Idx) : EReal :=
  if h : (y 0).val < 256 then x5 (ix3 0 ⟨(y 0).val, h⟩ (y 1))
  else x7 (ix3 0 ⟨(y 0).val - 256, by have : (y 0).val < 2304 := (y 0).isLt; omega⟩ (y 1))

/-- The key scratch after an even point. -/
theorem scrK (c : Dev nD) (t : Fin cfg0.N) (h : t.val % 2 = 0) :
    (outsAt0 m c t.val t.isLt).2.1 = kScr (iblk m c 4 t) (iblk m c 6 t) (iblk m c 10 t) (iblk m c 11 t) (iblk m c 13 t) := by
  funext y
  rw [outsAt0_A m c t h]
  frame_out
  clear h
  generalize iblk m c 4 t = x4
  generalize iblk m c 6 t = x6
  generalize iblk m c 10 t = C
  generalize iblk m c 11 t = S
  generalize iblk m c 13 t = g
  canon_tiles x h using (View.cover_of_tiledBy (s := S2304x128) _ ![256, 128] (by sl_kernel_rfl) y)
  case piece0 =>
    have e0 : ∀ h, (⟨(y 0).val - 256, h⟩ : Fin 2048) = x 0 := fun h => Fin.ext (by show (y 0).val - 256 = (x 0).val; omega)
    have e1 : y 1 = x 1 := Fin.ext h1
    have en : ¬ (y 0).val < 256 := by omega
    idx_vars x
    simp only [kScr, dif_neg en, e0, e1]
    open_payloads
    pointwise [kScr, rms, rot, select_parity]
    try rfl
  case piece1 =>
    have e0 : ∀ h, (⟨(y 0).val, h⟩ : Fin 256) = x 0 := fun h => Fin.ext h0
    have e1 : y 1 = x 1 := Fin.ext h1
    have en : (y 0).val < 256 := by omega
    idx_vars x
    simp only [kScr, dif_pos en, e0, e1]
    open_payloads
    pointwise [kScr, rms, rot, select_parity]
    try rfl

/-- The value scratch after an even point. -/
theorem scrV (c : Dev nD) (t : Fin cfg0.N) (h : t.val % 2 = 0) :
    (outsAt0 m c t.val t.isLt).2.2 = vScr (iblk m c 5 t) (iblk m c 7 t) := by
  funext y
  rw [outsAt0_A m c t h]
  frame_out
  clear h
  generalize iblk m c 5 t = x5
  generalize iblk m c 7 t = x7
  canon_tiles x h using (View.cover_of_tiledBy (s := S2304x128) _ ![256, 128] (by sl_kernel_rfl) y)
  case piece0 =>
    have e0 : ∀ h, (⟨(y 0).val - 256, h⟩ : Fin 2048) = x 0 := fun h => Fin.ext (by show (y 0).val - 256 = (x 0).val; omega)
    have e1 : y 1 = x 1 := Fin.ext h1
    have en : ¬ (y 0).val < 256 := by omega
    idx_vars x
    simp only [vScr, dif_neg en, e0, e1]
    open_payloads
    pointwise [vScr]
    try rfl
  case piece1 =>
    have e0 : ∀ h, (⟨(y 0).val, h⟩ : Fin 256) = x 0 := fun h => Fin.ext h0
    have e1 : y 1 = x 1 := Fin.ext h1
    have en : (y 0).val < 256 := by omega
    idx_vars x
    simp only [vScr, dif_pos en, e0, e1]
    open_payloads
    pointwise [vScr]
    try rfl

/-- A load of the whole scratch gives what its stores left. -/
theorem readWhole {κ : Kind} {sp : Space} (v : View sig κ sp S2304x128 .bf16)
    (L : List (View.Piece (Elt Ideal) S2304x128 .bf16)) (G : S2304x128.Idx → EReal)
    (inb : ∀ a, (![0, 0] : Fin S2304x128.rank → ℕ) a + (![2304, 128] : Fin S2304x128.rank → ℕ) a ≤ S2304x128.size a)
    (h : View.canon L = G) :
    v.readCov L (Rect.unit ![0, 0] ![2304, 128] inb).toLoadRect = G := by
  rw [View.readCov_eq_canon', h]
  funext j
  congr 1
  funext a
  apply Fin.ext
  fin_cases a
  all_goals simp [LoadRect.idx, Rect.toLoadRect, Rect.unit]

end Cert.KernelIdeal.Attn
-- ==== Proof.Blks.lean ====
module
public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.Block
@[expose] public section
set_option maxRecDepth 16384
noncomputable section
open Idealize.ShloMosaic Idealize.ShloMosaic.TcCoe Idealize.SL.Sem
open Idealize.ShloMosaic.Pipeline (Dat)
namespace Cert.KernelIdeal.Attn
open Cert.KernelIdeal Cert.KernelIdeal.Gen Cert.Attn
variable (m : (ℓ : Loc nD τ sig) → Buf (Elt Ideal) ℓ)

/-- Every window's block, by grid point: the batch, the key head and the half of the queries. -/
theorem idx : ∀ t : Fin cfg0.N,
    win0_0.index t = ![t.val / 4, t.val % 2, 4 + t.val / 2 % 2 * 4] ∧
    win0_1.index t = ![t.val / 4, t.val % 2, 5 + t.val / 2 % 2 * 4] ∧
    win0_2.index t = ![t.val / 4, t.val % 2, 6 + t.val / 2 % 2 * 4] ∧
    win0_3.index t = ![t.val / 4, t.val % 2, 7 + t.val / 2 % 2 * 4] ∧
    win0_4.index t = ![t.val / 4, 0, 26 + t.val / 2 % 2] ∧
    win0_5.index t = ![t.val / 4, 0, 28 + t.val / 2 % 2] ∧
    win0_6.index t = ![t.val / 4, 0, 26 + t.val / 2 % 2] ∧
    win0_7.index t = ![t.val / 4, 0, 28 + t.val / 2 % 2] ∧
    win0_8.index t = ![t.val % 2, 0] ∧ win0_9.index t = ![t.val % 2, 0] ∧
    win0_10.index t = ![0, 0] ∧ win0_11.index t = ![0, 0] ∧ win0_12.index t = ![0, 0] ∧ win0_13.index t = ![0, 0] ∧
    win0_14.index t = ![t.val / 4, t.val % 2, t.val / 2 % 2] :=
  (by decide +kernel : ∀ t : Fin grid0.N, _)

/-- The number of grid points. -/
theorem lt32 (t : Fin cfg0.N) : t.val < 32 := lt_of_lt_of_eq t.isLt N_0

/-- The batch of a point. -/
abbrev bOf (t : Fin cfg0.N) : Fin 8 := ⟨t.val / 4, by have := lt32 t; omega⟩
/-- The key head of a point. -/
abbrev hOf (t : Fin cfg0.N) : Fin 2 := ⟨t.val / 2 % 2, by omega⟩
/-- A query row of a point, as a token. -/
abbrev rowOf (t : Fin cfg0.N) (r : Fin 1024) : Fin 2048 := ⟨t.val % 2 * 1024 + r.val, by omega⟩

variable (c : Dev nD) (t : Fin cfg0.N)

set_option maxHeartbeats 4000000 in
/-- The four query blocks: the heads of the point's group, at the point's tokens. -/
theorem q_blk (g : Fin 4) (r : Fin 1024) (e : Fin 128) :
    (pick (iblk m c 0 t) (iblk m c 1 t) (iblk m c 2 t) (iblk m c 3 t) g.val (ix3 0 r e) : EReal) =
      m (c, Proc.tc.devRef main_arg0) (ix3 (bOf t) (rowOf t r) ⟨512 + ((hOf t).val * 512 + g.val * 128 + e.val), by have := (hOf t).isLt; omega⟩) := by
  fin_cases g
  all_goals
    simp only [pick, Nat.reduceEqDiff, reduceIte, Fin.zero_eta, Fin.mk_one, Fin.reduceFinMk, Fin.val_zero, Fin.val_one, Fin.val_two, Nat.one_ne_zero, Nat.zero_ne_one, OfNat.ofNat_ne_zero]
    blk_ext [iblk, V, idx t]

/-- The context's key block. -/
theorem kc_blk (r : Fin 256) (e : Fin 128) : (iblk m c 4 t (ix3 0 r e) : EReal) =
    m (c, Proc.tc.devRef main_arg1) (ix3 (bOf t) r ⟨3328 + ((hOf t).val * 128 + e.val), by have := (hOf t).isLt; omega⟩) := by
  blk_ext [iblk, V, idx t]
/-- The context's value block. -/
theorem vc_blk (r : Fin 256) (e : Fin 128) : (iblk m c 5 t (ix3 0 r e) : EReal) =
    m (c, Proc.tc.devRef main_arg1) (ix3 (bOf t) r ⟨3584 + ((hOf t).val * 128 + e.val), by have := (hOf t).isLt; omega⟩) := by
  blk_ext [iblk, V, idx t]
/-- The latent key block. -/
theorem kl_blk (r : Fin 2048) (e : Fin 128) : (iblk m c 6 t (ix3 0 r e) : EReal) =
    m (c, Proc.tc.devRef main_arg0) (ix3 (bOf t) r ⟨3328 + ((hOf t).val * 128 + e.val), by have := (hOf t).isLt; omega⟩) := by
  blk_ext [iblk, V, idx t]
/-- The latent value block. -/
theorem vl_blk (r : Fin 2048) (e : Fin 128) : (iblk m c 7 t (ix3 0 r e) : EReal) =
    m (c, Proc.tc.devRef main_arg0) (ix3 (bOf t) r ⟨3584 + ((hOf t).val * 128 + e.val), by have := (hOf t).isLt; omega⟩) := by
  blk_ext [iblk, V, idx t]
/-- The cosines of the point's tokens. -/
theorem cq_blk (r : Fin 1024) (e : Fin 128) : (iblk m c 8 t (ix2 r e) : EReal) = V m c main_v40 (ix2 (rowOf t r) e) := by
  blk_ext [iblk, idx t]
/-- The signed sines of the point's tokens. -/
theorem sq_blk (r : Fin 1024) (e : Fin 128) : (iblk m c 9 t (ix2 r e) : EReal) = V m c main_v43 (ix2 (rowOf t r) e) := by
  blk_ext [iblk, idx t]
/-- The cosines of every token. -/
theorem ck_blk (r : Fin 2048) (e : Fin 128) : (iblk m c 10 t (ix2 r e) : EReal) = V m c main_v40 (ix2 r e) := by
  blk_ext [iblk, idx t]
/-- The signed sines of every token. -/
theorem sk_blk (r : Fin 2048) (e : Fin 128) : (iblk m c 11 t (ix2 r e) : EReal) = V m c main_v43 (ix2 r e) := by
  blk_ext [iblk, idx t]
/-- The query gain. -/
theorem gq_blk (e : Fin 128) : (iblk m c 12 t (ix2 0 e) : EReal) = V m c main_v44 (ix2 0 e) := by
  blk_ext [iblk, idx t]
/-- The key gain. -/
theorem gk_blk (e : Fin 128) : (iblk m c 13 t (ix2 0 e) : EReal) = V m c main_v45 (ix2 0 e) := by
  blk_ext [iblk, idx t]

end Cert.KernelIdeal.Attn
-- ==== Proof.BlockA.lean ====
module
public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.Block
@[expose] public section
set_option maxRecDepth 16384
noncomputable section
open Idealize.ShloMosaic Idealize.ShloMosaic.TcCoe Idealize.SL.Sem
open Idealize.ShloMosaic.Pipeline (Dat)
namespace Cert.KernelIdeal.Attn
open Cert.KernelIdeal Cert.KernelIdeal.Gen Cert.Attn
variable (m : (ℓ : Loc nD τ sig) → Buf (Elt Ideal) ℓ)

set_option maxHeartbeats 16000000 in
/-- One even point's block, from the scratches the point has just filled. -/
theorem blockA (c : Dev nD) (t : Fin cfg0.N) (h : t.val % 2 = 0) (y : S1x1024x512.Idx) :
    (outsAt0 m c t.val t.isLt).1 y =
      blockOut (outsAt0 m c t.val t.isLt).2.1 (outsAt0 m c t.val t.isLt).2.2
        (iblk m c 0 t) (iblk m c 1 t) (iblk m c 2 t) (iblk m c 3 t) (iblk m c 8 t) (iblk m c 9 t) (iblk m c 12 t) y := by
  generalize hK : (outsAt0 m c t.val t.isLt).2.1 = K
  generalize hV : (outsAt0 m c t.val t.isLt).2.2 = V
  rw [outsAt0_A m c t h] at hK hV ⊢
  frame_out at hK
  frame_out at hV
  frame_out
  simp only [readWhole _ _ _ _ hK, readWhole _ _ _ _ hV]
  clear hK hV h
  generalize iblk m c 0 t = X0
  generalize iblk m c 1 t = X1
  generalize iblk m c 2 t = X2
  generalize iblk m c 3 t = X3
  generalize iblk m c 8 t = C
  generalize iblk m c 9 t = S
  generalize iblk m c 12 t = g
  canon_tiles x h
  all_goals
    simp (disch := omega) only [blockOut, pick, if_pos, if_neg]
    have e2 : (⟨(y 2).val % 128, by omega⟩ : Fin 128) = x 2 := Fin.ext (by show (y 2).val % 128 = (x 2).val; omega)
    simp only [e2]
    open_payloads
    pointwise [attend2, score, top, rms, rot, select_parity, ofBits_bot]
    simp only [← h1, Fin.eta]
    rfl

end Cert.KernelIdeal.Attn
-- ==== Proof.BlockB.lean ====
module
public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.Block
@[expose] public section
set_option maxRecDepth 16384
noncomputable section
open Idealize.ShloMosaic Idealize.ShloMosaic.TcCoe Idealize.SL.Sem
open Idealize.ShloMosaic.Pipeline (Dat)
namespace Cert.KernelIdeal.Attn
open Cert.KernelIdeal Cert.KernelIdeal.Gen Cert.Attn
variable (m : (ℓ : Loc nD τ sig) → Buf (Elt Ideal) ℓ)

set_option maxHeartbeats 16000000 in
/-- One odd point's block, from the scratches the point before left. -/
theorem blockB (c : Dev nD) (t : Fin cfg0.N) (h : ¬ t.val % 2 = 0) (y : S1x1024x512.Idx) :
    (outsAt0 m c t.val t.isLt).1 y =
      blockOut (outsAt0 m c (t.val - 1) (Nat.lt_of_le_of_lt (Nat.sub_le _ _) t.isLt)).2.1
        (outsAt0 m c (t.val - 1) (Nat.lt_of_le_of_lt (Nat.sub_le _ _) t.isLt)).2.2
        (iblk m c 0 t) (iblk m c 1 t) (iblk m c 2 t) (iblk m c 3 t) (iblk m c 8 t) (iblk m c 9 t) (iblk m c 12 t) y := by
  rw [outsAt0_B m c t h]
  frame_out
  clear h
  simp only [read_unread_whole]
  generalize (outsAt0 m c (t.val - 1) (Nat.lt_of_le_of_lt (Nat.sub_le _ _) t.isLt)).2.1 = K
  generalize (outsAt0 m c (t.val - 1) (Nat.lt_of_le_of_lt (Nat.sub_le _ _) t.isLt)).2.2 = V
  generalize iblk m c 0 t = X0
  generalize iblk m c 1 t = X1
  generalize iblk m c 2 t = X2
  generalize iblk m c 3 t = X3
  generalize iblk m c 8 t = C
  generalize iblk m c 9 t = S
  generalize iblk m c 12 t = g
  canon_tiles x h
  all_goals
    simp (disch := omega) only [blockOut, pick, if_pos, if_neg]
    have e2 : (⟨(y 2).val % 128, by omega⟩ : Fin 128) = x 2 := Fin.ext (by show (y 2).val % 128 = (x 2).val; omega)
    simp only [e2]
    open_payloads
    pointwise [attend2, score, top, rms, rot, select_parity, ofBits_bot]
    simp only [← h1, Fin.eta]
    rfl

end Cert.KernelIdeal.Attn
-- ==== Proof.Tables.lean ====
module
public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.Scalar
public import proofs.«01_k».proof.Proof.Gen.ReferenceIdeal.Read
public import Idealize.ShloMosaic.Lib.StableHlo.ReadAt
@[expose] public section
set_option maxRecDepth 16384
noncomputable section
open Idealize.ShloMosaic Idealize.ShloMosaic.TcCoe Idealize.SL.Sem
open Idealize.ShloMosaic.Pipeline (Dat)
namespace Cert.KernelIdeal.Attn
open Cert.KernelIdeal Cert.KernelIdeal.Gen Cert.Attn
variable (m : (ℓ : Loc nD τ sig) → Buf (Elt Ideal) ℓ)

set_option maxHeartbeats 2000000 in
/-- The angles of the kernel's host code are the reference's. -/
theorem V25 (c : Dev nD) : V m c main_v25 = Cert.ReferenceIdeal.Read.val_main_v25 (F := Ideal) := by
  unfold V
  rfl

set_option maxHeartbeats 2000000 in
/-- The cosine table: each lane the cosine of its pair's angle. -/
theorem V40 (c : Dev nD) (t : Fin 2048) (d : Fin 128) : (V m c main_v40 (ix2 t d) : EReal) =
    Ideal.cos (V m c main_v25 (ix2 t ⟨d.val / 2, by omega⟩)) := by
  unfold V
  after_reads_at
  after_reads_at

/-- The sign literal of a lane: minus one on even lanes, one on odd lanes. -/
theorem sign_at (k : Fin 2) : Ideal.ofBits FTy.f32 (lit0 (S2.rowMajor (ix1 k))) = if k.val = 0 then (-1 : EReal) else 1 := by
  fin_cases k
  · rw [show lit0 (S2.rowMajor (ix1 (⟨0, by decide⟩ : Fin 2))) = 0xBF800000#32 from by rfl]
    simp [Ideal.ofBits, Ideal.ieee, -EReal.coe_mul]; norm_num
  · rw [show lit0 (S2.rowMajor (ix1 (⟨1, by decide⟩ : Fin 2))) = 0x3F800000#32 from by rfl]
    simp [Ideal.ofBits, Ideal.ieee, -EReal.coe_mul]; norm_num

set_option maxHeartbeats 2000000 in
/-- The sine table: each lane the sine of its pair's angle, negated on even lanes. -/
theorem V43 (c : Dev nD) (t : Fin 2048) (d : Fin 128) : (V m c main_v43 (ix2 t d) : EReal) =
    Ideal.sin (V m c main_v25 (ix2 t ⟨d.val / 2, by omega⟩)) * Ideal.ofBits FTy.f32 (lit0 (S2.rowMajor (ix1 ⟨d.val % 2, by omega⟩))) := by
  unfold V
  after_reads_at
  after_reads_at

/-- The query gain, as a row. -/
theorem V44 (c : Dev nD) (d : Fin 128) : (V m c main_v44 (ix2 0 d) : EReal) = m (c, Proc.tc.devRef main_arg2) (ix1 d) := by
  unfold V
  after_reads_at

/-- The key gain, as a row. -/
theorem V45 (c : Dev nD) (d : Fin 128) : (V m c main_v45 (ix2 0 d) : EReal) = m (c, Proc.tc.devRef main_arg3) (ix1 d) := by
  unfold V
  after_reads_at

end Cert.KernelIdeal.Attn
-- ==== Proof.Soft.lean ====
module
public import proofs.«01_k».proof.Proof.Scalar
@[expose] public section
noncomputable section
open Idealize.ShloMosaic
namespace Cert.Attn

/-- A number that is neither infinity. -/
def Real' (x : EReal) : Prop := ∃ r : ℝ, x = (r : EReal)

theorem Real'.mul {x y : EReal} (hx : Real' x) (hy : Real' y) : Real' (x * y) := by
  obtain ⟨a, rfl⟩ := hx; obtain ⟨b, rfl⟩ := hy; exact ⟨a * b, by push_cast; rfl⟩
theorem Real'.add {x y : EReal} (hx : Real' x) (hy : Real' y) : Real' (x + y) := by
  obtain ⟨a, rfl⟩ := hx; obtain ⟨b, rfl⟩ := hy; exact ⟨a + b, by push_cast; rfl⟩
theorem Real'.sub {x y : EReal} (hx : Real' x) (hy : Real' y) : Real' (x - y) := by
  obtain ⟨a, rfl⟩ := hx; obtain ⟨b, rfl⟩ := hy; exact ⟨a - b, by push_cast; rfl⟩
theorem Real'.cos {x : EReal} (hx : Real' x) : Real' (Ideal.cos x) := by
  obtain ⟨a, rfl⟩ := hx; exact ⟨Real.cos a, rfl⟩
theorem Real'.sin {x : EReal} (hx : Real' x) : Real' (Ideal.sin x) := by
  obtain ⟨a, rfl⟩ := hx; exact ⟨Real.sin a, rfl⟩

/-- A finite sum of real numbers, read as an extended real. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The number of lanes, as a real number. -/
theorem lanes_eq : lanes = ((128 : ℝ) : EReal) := by
  simp [lanes, Ideal.ofBits, Ideal.ieee, -EReal.coe_mul]; norm_num

/-- The small number is a positive real number. -/
theorem eps_pos : ∃ r : ℝ, 0 < r ∧ eps = (r : EReal) := by
  refine ⟨_, ?_, by simp only [eps, Ideal.ofBits, Ideal.ieee]; simp [-EReal.coe_mul]; rfl⟩
  norm_num

/-- A normalised row is finite, whatever the row holds, if its gain is: a row with an infinite entry has an infinite
mean square, whose reciprocal root is zero. -/
theorem rms_real (x g : Fin 128 → EReal) (hg : ∀ d, Real' (g d)) (d : Fin 128) : Real' (rms x g d) := by
  refine Real'.mul ?_ (hg d)
  obtain ⟨ε, hε, he⟩ := eps_pos
  rw [lanes_eq, he, Ideal.div_coe (by norm_num)]
  by_cases h : ∀ e, Real' (x e)
  · choose r hr using h
    have hs : (∑ e, x e * x e) = ((∑ e, r e * r e : ℝ) : EReal) := by
      rw [coe_sum]
      exact Finset.sum_congr rfl fun e _ => by rw [hr e, EReal.coe_mul]
    have hp : 0 < (∑ e, r e * r e) * (1 / 128) + ε := by
      have : 0 ≤ ∑ e, r e * r e := Finset.sum_nonneg fun e _ => mul_self_nonneg _
      positivity
    rw [hs, ← EReal.coe_mul, ← EReal.coe_add, Ideal.rsqrt_coe, if_neg (not_lt.2 hp.le), if_neg hp.ne', hr d]
    exact ⟨r d * _, by push_cast; rfl⟩
  · obtain ⟨e, he'⟩ := not_forall.1 h
    have hsq : ∀ y : EReal, 0 ≤ y * y := fun y => by
      rcases le_total 0 y with hy | hy
      · exact mul_nonneg hy hy
      · rw [← neg_mul_neg]; exact mul_nonneg (EReal.neg_nonneg.2 hy) (EReal.neg_nonneg.2 hy)
    have htop : x e * x e = ⊤ := by
      induction hx : x e using EReal.rec with
      | bot => rfl
      | top => rfl
      | coe r => exact absurd ⟨r, hx⟩ he'
    have hs : (∑ e, x e * x e) = ⊤ := by
      refine top_le_iff.1 ?_
      rw [← htop]
      exact Finset.single_le_sum (f := fun e => x e * x e) (fun e _ => hsq _) (Finset.mem_univ e)
    rw [hs, EReal.top_mul_coe_of_pos (by norm_num), EReal.top_add_coe, Ideal.rsqrt_top, mul_zero]
    exact ⟨0, rfl⟩

/-- The rotation by tables is the plain rotation, when the tables hold the angles' cosines and signed sines. -/
theorem rot_eq (z c s : Fin 128 → EReal) (A : Fin 64 → EReal) (hc : ∀ d : Fin 128, c d = Ideal.cos (A ⟨d.val / 2, by omega⟩))
    (hs : ∀ d : Fin 128, s d = Ideal.sin (A ⟨d.val / 2, by omega⟩) * (if d.val % 2 = 0 then (-1 : EReal) else 1)) (d : Fin 128) :
    rot z c s d = rotR z A d := by
  rw [rot, rotR, hc, hs]
  by_cases h : d.val % 2 = 0
  · have e0 : (⟨2 * (d.val / 2), by omega⟩ : Fin 128) = d := Fin.ext (by show 2 * (d.val / 2) = d.val; omega)
    have e1 : (⟨(d.val + 128 - 127) % 128, by omega⟩ : Fin 128) = ⟨1 + 2 * (d.val / 2), by omega⟩ :=
      Fin.ext (by show (d.val + 128 - 127) % 128 = 1 + 2 * (d.val / 2); omega)
    rw [if_pos h, if_pos h, if_pos (by omega), e0, e1, mul_neg, mul_one, mul_neg, sub_eq_add_neg]
  · have e0 : (⟨1 + 2 * (d.val / 2), by omega⟩ : Fin 128) = d := Fin.ext (by show 1 + 2 * (d.val / 2) = d.val; omega)
    have e1 : (⟨(d.val + 128 - 1) % 128, by omega⟩ : Fin 128) = ⟨2 * (d.val / 2), by omega⟩ :=
      Fin.ext (by show (d.val + 128 - 1) % 128 = 2 * (d.val / 2); omega)
    rw [if_neg h, if_neg h, if_neg (by omega), e0, e1, mul_one, add_comm]

/-- A rotated row is finite if the row and the angles are. -/
theorem rotR_real (z : Fin 128 → EReal) (A : Fin 64 → EReal) (hz : ∀ d, Real' (z d)) (hA : ∀ i, Real' (A i)) (d : Fin 128) :
    Real' (rotR z A d) := by
  rw [rotR]
  split
  · exact ((hz _).mul (hA _).cos).sub ((hz _).mul (hA _).sin)
  · exact ((hz _).mul (hA _).sin).add ((hz _).mul (hA _).cos)

/-- The largest of finitely many real numbers, one of which bounds them all. -/
theorem top_eq (f : Fin 2304 → ℝ) (i : Fin 2304) (h : ∀ j, f j ≤ f i) : top (fun j => (f j : EReal)) = (f i : EReal) := by
  refine le_antisymm ?_ ?_
  · exact Finset.sup_le (f := fun j => (f j : EReal)) fun j _ => EReal.coe_le_coe_iff.2 (h j)
  · exact Finset.le_sup (f := fun j => (f j : EReal)) (Finset.mem_univ i)

/-- A sum of extended reals times a nonnegative real number, term by term. -/
theorem sum_mul_real {ι : Type} (s : Finset ι) (f : ι → EReal) (r : ℝ) (hr : 0 ≤ r) : (∑ j ∈ s, f j) * (r : EReal) = ∑ j ∈ s, f j * (r : EReal) := by
  classical
  induction s using Finset.induction_on with
  | empty => simp
  | insert a s ha ih =>
    rw [Finset.sum_insert ha, Finset.sum_insert ha, ← ih, mul_comm,
      EReal.left_distrib_of_nonneg_of_ne_top (EReal.coe_nonneg.2 hr) (EReal.coe_ne_top r), mul_comm, mul_comm (r : EReal)]

/-- The score scale the kernel folds into its queries. -/
abbrev scale2 : ℝ := (Real.sqrt 128)⁻¹ * (Real.log 2)⁻¹

/-- Base-two attention of scaled queries is the softmax attention, for finite queries and keys and any values. -/
theorem attend_eq (q : Fin 128 → EReal) (K V : Fin 2304 → Fin 128 → EReal) (hq : ∀ e, Real' (q e)) (hK : ∀ j e, Real' (K j e))
    (d : Fin 128) : attend2 (fun e => q e * (scale2 : EReal)) K V d = attendE q K V d := by
  choose qr hqr using hq
  choose kr hkr using hK
  have ha : (0 : ℝ) < (Real.sqrt 128)⁻¹ := by positivity
  have hl : (0 : ℝ) < Real.log 2 := Real.log_pos (by norm_num)
  have h2 : ∀ j, score (fun e => q e * (scale2 : EReal)) K j = (((∑ e, qr e * kr j e) * scale2 : ℝ) : EReal) := fun j => by
    rw [score, Finset.sum_mul, coe_sum]
    refine Finset.sum_congr rfl fun e _ => ?_
    rw [hqr e, hkr j e, ← EReal.coe_mul, ← EReal.coe_mul, mul_right_comm]
  have hR : ∀ j, scoreR q K j = (((∑ e, qr e * kr j e) * (Real.sqrt 128)⁻¹ : ℝ) : EReal) := fun j => by
    have hs : score q K j = ((∑ e, qr e * kr j e : ℝ) : EReal) := by
      rw [score, coe_sum]
      exact Finset.sum_congr rfl fun e _ => by rw [hqr e, hkr j e]; push_cast; rfl
    rw [scoreR, hs, lanes_eq, Ideal.sqrt_coe, if_neg (by norm_num), Ideal.div_coe (by positivity), one_div, EReal.coe_mul]
  obtain ⟨i, -, hi⟩ := Finset.exists_max_image Finset.univ (fun j => ∑ e, qr e * kr j e) ⟨0, Finset.mem_univ _⟩
  have t2 : top (score (fun e => q e * (scale2 : EReal)) K) = (((∑ e, qr e * kr i e) * scale2 : ℝ) : EReal) := by
    rw [funext h2]
    exact top_eq (fun j => (∑ e, qr e * kr j e) * scale2) i fun j =>
      mul_le_mul_of_nonneg_right (hi j (Finset.mem_univ j)) (by positivity)
  have tR : top (scoreR q K) = (((∑ e, qr e * kr i e) * (Real.sqrt 128)⁻¹ : ℝ) : EReal) := by
    rw [funext hR]
    exact top_eq (fun j => (∑ e, qr e * kr j e) * (Real.sqrt 128)⁻¹) i fun j =>
      mul_le_mul_of_nonneg_right (hi j (Finset.mem_univ j)) ha.le
  have e2 : ∀ j, Ideal.exp2 (score (fun e => q e * (scale2 : EReal)) K j - top (score (fun e => q e * (scale2 : EReal)) K)) =
      ((Real.exp ((∑ e, qr e * kr j e) * (Real.sqrt 128)⁻¹ - (∑ e, qr e * kr i e) * (Real.sqrt 128)⁻¹) : ℝ) : EReal) := fun j => by
    rw [h2, t2, ← EReal.coe_sub, Ideal.exp2_coe]
    congr 1
    rw [Real.rpow_eq_pow, Real.rpow_def_of_pos (by norm_num)]
    congr 1
    rw [scale2]; field_simp
  have eR : ∀ j, expR q K j =
      ((Real.exp ((∑ e, qr e * kr j e) * (Real.sqrt 128)⁻¹ - (∑ e, qr e * kr i e) * (Real.sqrt 128)⁻¹) : ℝ) : EReal) := fun j => by
    rw [expR, hR, tR, max_eq_right bot_le, ← EReal.coe_sub, Ideal.exp_coe]
  simp only [attend2, attendE, e2, eR]
  generalize hp : (fun j => Real.exp ((∑ e, qr e * kr j e) * (Real.sqrt 128)⁻¹ - (∑ e, qr e * kr i e) * (Real.sqrt 128)⁻¹)) = p
  have hp0 : ∀ j, 0 < p j := fun j => by rw [← hp]; exact Real.exp_pos _
  have hpe : ∀ j, Real.exp ((∑ e, qr e * kr j e) * (Real.sqrt 128)⁻¹ - (∑ e, qr e * kr i e) * (Real.sqrt 128)⁻¹) = p j :=
    fun j => congrFun hp j
  simp only [hpe]
  have hP : 0 < ∑ j, p j := Finset.sum_pos (fun j _ => hp0 j) ⟨0, Finset.mem_univ _⟩
  rw [← coe_sum, Ideal.div_coe hP.ne', one_mul, sum_mul_real _ _ _ (by positivity)]
  refine Finset.sum_congr rfl fun j _ => ?_
  rw [Ideal.div_coe hP.ne', mul_right_comm]

end Cert.Attn
-- ==== Proof.Angle.lean ====
module
public import proofs.«01_k».proof.Proof.Soft
public import proofs.«01_k».proof.Proof.Gen.ReferenceIdeal.Read
public import Idealize.ShloMosaic.Lib.Pointwise
@[expose] public section
set_option maxRecDepth 16384
noncomputable section
open Idealize.ShloMosaic Idealize.ShloMosaic.TcCoe Idealize.SL.Sem
namespace Cert.ReferenceIdeal.Attn
open Cert.ReferenceIdeal Cert.ReferenceIdeal.Gen Cert.ReferenceIdeal.Read Cert.Attn

/-- An integer's float times a power of ten thousand is finite. -/
theorem pow_real (n k : BitVec 32) : Real' ((FloatOps.sitofp (F := Ideal) FTy.f32 n : EReal) *
    Ideal.pow (Ideal.ofBits FTy.f32 0x461C4000#32)
      (Ideal.div (-(Ideal.ofBits FTy.f32 0x40000000#32 * FloatOps.sitofp (F := Ideal) FTy.f32 k)) (Ideal.ofBits FTy.f32 0x42800000#32))) := by
  have h1 : Ideal.ofBits FTy.f32 0x461C4000#32 = ((10000 : ℝ) : EReal) := by
    simp [Ideal.ofBits, Ideal.ieee, -EReal.coe_mul]; norm_num
  have h2 : Ideal.ofBits FTy.f32 0x40000000#32 = ((2 : ℝ) : EReal) := by
    simp [Ideal.ofBits, Ideal.ieee, -EReal.coe_mul]; norm_num
  have h3 : Ideal.ofBits FTy.f32 0x42800000#32 = ((64 : ℝ) : EReal) := by
    simp [Ideal.ofBits, Ideal.ieee, -EReal.coe_mul]; norm_num
  rw [h1, h2, h3, Ideal.div_coe (by norm_num)]
  refine Real'.mul ⟨(n.toInt : ℝ), rfl⟩ ?_
  show Real' (Ideal.pow _ (-(((2 : ℝ) : EReal) * ((k.toInt : ℝ) : EReal)) * ((1 / 64 : ℝ) : EReal)))
  rw [← EReal.coe_mul, ← EReal.coe_neg, ← EReal.coe_mul, Ideal.pow_coe_coe]
  exact ⟨_, rfl⟩

/-- Every angle is finite. -/
theorem angle_real (t : Fin 2048) (i : Fin 64) : Real' (val_main_v25 (F := Ideal) (ix2 t i)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_1, val_main_cst_2, val_main_cst_3]
  split <;> exact pow_real _ _
end Cert.ReferenceIdeal.Attn
-- ==== Proof.Ref.lean ====
module
public import proofs.«01_k».proof.Proof.Scalar
public import proofs.«01_k».proof.Proof.Gen.ReferenceIdeal.Read
public import Idealize.ShloMosaic.Lib.Pointwise
@[expose] public section
set_option maxRecDepth 16384
noncomputable section
open Idealize.ShloMosaic Idealize.ShloMosaic.TcCoe Idealize.SL.Sem
namespace Cert.ReferenceIdeal.Attn
open Cert.ReferenceIdeal Cert.ReferenceIdeal.Gen Cert.ReferenceIdeal.Read Cert.Attn

variable (x0 : (⟨S8x2048x4608, .f32⟩ : BufTy).Contents (Elt Ideal)) (x1 : (⟨S8x256x4608, .f32⟩ : BufTy).Contents (Elt Ideal))
  (x2 x3 : (⟨S128, .f32⟩ : BufTy).Contents (Elt Ideal))

/-- The literal a maximum starts from is the least number. -/
theorem ofBits_bot : Ideal.ofBits FTy.f32 0xFF800000#32 = ⊥ := by
  simp [Ideal.ofBits, Ideal.ieee]

/-- The angles, by token. -/
def angle (t : Fin 2048) (i : Fin 64) : EReal := val_main_v25 (F := Ideal) (ix2 t i)

/-- A head's latent queries before the rotation. -/
def qN (b : Fin 8) (h : Fin 2) (g : Fin 4) (t : Fin 2048) : Fin 128 → EReal :=
  rms (fun e => x0 (ix3 b t ⟨512 + (h.val * 512 + g.val * 128 + e.val), by omega⟩)) fun e => x2 (ix1 e)

/-- A head's latent keys before the rotation. -/
def kN (b : Fin 8) (h : Fin 2) (t : Fin 2048) : Fin 128 → EReal :=
  rms (fun e => x0 (ix3 b t ⟨3328 + (h.val * 128 + e.val), by omega⟩)) fun e => x3 (ix1 e)

/-- A head's keys: the context's, then the latent ones. -/
def keys (b : Fin 8) (h : Fin 2) (j : Fin 2304) : Fin 128 → EReal :=
  if hj : j.val < 256 then rms (fun e => x1 (ix3 b ⟨j.val, hj⟩ ⟨3328 + (h.val * 128 + e.val), by omega⟩)) fun e => x3 (ix1 e)
  else rotR (kN x0 x3 b h ⟨j.val - 256, by omega⟩) (angle ⟨j.val - 256, by omega⟩)

/-- A head's values: the context's, then the latent ones. -/
def values (b : Fin 8) (h : Fin 2) (j : Fin 2304) (d : Fin 128) : EReal :=
  if hj : j.val < 256 then x1 (ix3 b ⟨j.val, hj⟩ ⟨3584 + (h.val * 128 + d.val), by omega⟩)
  else x0 (ix3 b ⟨j.val - 256, by omega⟩ ⟨3584 + (h.val * 128 + d.val), by omega⟩)

/-- The normalised queries, at an index. -/
theorem q_at (b : Fin 8) (h : Fin 2) (g : Fin 4) (t : Fin 2048) (d : Fin 128) :
    val_main_v43 (F := Ideal) x0 x2 (ix5 b h g t d) = qN x0 x2 b h g t d := by
  pointwise [val_main_v28, val_main_v29, val_main_v30, val_main_v31, val_main_v32, val_main_v33, val_main_v34, val_main_v35, val_main_v36, val_main_v37, val_main_v38, val_main_v39, val_main_v40, val_main_v41, val_main_v42, val_main_v43, val_main_cst_4, val_main_cst_5, val_main_cst_6, qN, rms]

/-- The normalised latent keys, at an index. -/
theorem kl_at (b : Fin 8) (h : Fin 2) (t : Fin 2048) (d : Fin 128) :
    val_main_v79 (F := Ideal) x0 x3 (ix4 b h t d) = kN x0 x3 b h t d := by
  pointwise [val_main_v64, val_main_v65, val_main_v66, val_main_v67, val_main_v68, val_main_v69, val_main_v70, val_main_v71, val_main_v72, val_main_v73, val_main_v74, val_main_v75, val_main_v76, val_main_v77, val_main_v78, val_main_v79, val_main_cst_7, val_main_cst_8, val_main_cst_9, kN, rms]

/-- The normalised context keys, at an index. -/
theorem kc_at (b : Fin 8) (h : Fin 2) (t : Fin 256) (d : Fin 128) :
    val_main_v118 (F := Ideal) x1 x3 (ix4 b h t d) =
      rms (fun e => x1 (ix3 b t ⟨3328 + (h.val * 128 + e.val), by omega⟩)) (fun e => x3 (ix1 e)) d := by
  pointwise [val_main_v103, val_main_v104, val_main_v105, val_main_v106, val_main_v107, val_main_v108, val_main_v109, val_main_v110, val_main_v111, val_main_v112, val_main_v113, val_main_v114, val_main_v115, val_main_v116, val_main_v117, val_main_v118, val_main_cst_10, val_main_cst_11, val_main_cst_12, rms]

/-- The rotated queries, at an index. -/
theorem qr_at (b : Fin 8) (h : Fin 2) (g : Fin 4) (t : Fin 2048) (d : Fin 128) :
    val_main_v63 (F := Ideal) x0 x2 (ix5 b h g t d) = rotR (qN x0 x2 b h g t) (angle t) d := by
  pointwise [val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v26, val_main_v27]
  simp only [q_at, rotR, angle]
  split_ifs <;> rfl

/-- The rotated latent keys, at an index. -/
theorem kr_at (b : Fin 8) (h : Fin 2) (t : Fin 2048) (d : Fin 128) :
    val_main_v99 (F := Ideal) x0 x3 (ix4 b h t d) = rotR (kN x0 x3 b h t) (angle t) d := by
  pointwise [val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v26, val_main_v27]
  simp only [kl_at, rotR, angle]
  split_ifs <;> rfl

/-- The values, at an index. -/
theorem v_at (b : Fin 8) (h : Fin 2) (j : Fin 2304) (d : Fin 128) :
    val_main_v123 (F := Ideal) x0 x1 (ix4 b h j d) = values x0 x1 b h j d := by
  pointwise [val_main_v100, val_main_v101, val_main_v102,val_main_v119, val_main_v120, val_main_v121,val_main_v123, values]

/-- The keys, at an index. -/
theorem k_at (b : Fin 8) (h : Fin 2) (j : Fin 2304) (d : Fin 128) :
    val_main_v122 (F := Ideal) x0 x1 x3 (ix4 b h j d) = keys x0 x1 x3 b h j d := by
  pointwise [val_main_v122]
  simp only [kc_at, kr_at, keys]
  split <;> rfl

/-- The rotated queries of one token. -/
def queries (b : Fin 8) (h : Fin 2) (g : Fin 4) (t : Fin 2048) : Fin 128 → EReal := rotR (qN x0 x2 b h g t) (angle t)

/-- The scores, at an index. -/
theorem s_at (b : Fin 8) (h : Fin 2) (g : Fin 4) (t : Fin 2048) (j : Fin 2304) :
    val_main_v127 (F := Ideal) x0 x1 x2 x3 (ix5 b h g t j) = scoreR (queries x0 x2 b h g t) (keys x0 x1 x3 b h) j := by
  pointwise [val_main_v124, val_main_v125, val_main_v126, val_main_v127, val_main_cst_13]
  simp only [qr_at, k_at, scoreR, score, queries]

end Cert.ReferenceIdeal.Attn
-- ==== Proof.RefB.lean ====
module
public import proofs.«01_k».proof.Proof.Scalar
public import proofs.«01_k».proof.Proof.Gen.ReferenceIdeal.Read
public import Idealize.ShloMosaic.Lib.Pointwise
public import proofs.«01_k».proof.Proof.Ref
@[expose] public section
set_option maxRecDepth 16384
noncomputable section
open Idealize.ShloMosaic Idealize.ShloMosaic.TcCoe Idealize.SL.Sem
namespace Cert.ReferenceIdeal.Attn
open Cert.ReferenceIdeal Cert.ReferenceIdeal.Gen Cert.ReferenceIdeal.Read Cert.Attn

variable (x0 : (⟨S8x2048x4608, .f32⟩ : BufTy).Contents (Elt Ideal)) (x1 : (⟨S8x256x4608, .f32⟩ : BufTy).Contents (Elt Ideal))
  (x2 x3 : (⟨S128, .f32⟩ : BufTy).Contents (Elt Ideal))

/-- The host's maximum over the last axis, at an index. -/
theorem hostMax_at (f : FVec Ideal S8x2x4x2048x2304 .f32) (b : Fin 8) (h : Fin 2) (g : Fin 4) (t : Fin 2048) :
    (Host.reduce (FloatOps.maximumf (F := Ideal) (φ := .f32)) f (constant (F := Ideal) S_ .f32 0xFF800000#32) reducesTo_S8x2x4x2048x2304_S8x2x4x2048_d4 h_S_ (ix4 b h g t) : EReal) =
      top fun j => f (ix5 b h g t j) := by
  pointwise [top, ofBits_bot]

/-- The largest score, at an index. -/
theorem top_at (b : Fin 8) (h : Fin 2) (g : Fin 4) (t : Fin 2048) :
    val_main_v130 (F := Ideal) x0 x1 x2 x3 (ix4 b h g t) = max ⊥ (top (scoreR (queries x0 x2 b h g t) (keys x0 x1 x3 b h))) := by
  rw [val_main_v130_apply, val_main_v129_apply, val_main_cst_15_apply]
  rw [val_main_v128, val_main_cst_14, hostMax_at]
  simp only [s_at]
  rw [Ideal.maximumf_def, Ideal.ofBits_def, ofBits_bot]

/-- The exponentials, at an index. -/
theorem e_at (b : Fin 8) (h : Fin 2) (g : Fin 4) (t : Fin 2048) (j : Fin 2304) :
    val_main_v134 (F := Ideal) x0 x1 x2 x3 (ix5 b h g t j) = expR (queries x0 x2 b h g t) (keys x0 x1 x3 b h) j := by
  pointwise [val_main_v131, val_main_v132, val_main_v133, val_main_v134]
  simp only [s_at, top_at, expR]

/-- Their sum, at an index. -/
theorem sum_at (b : Fin 8) (h : Fin 2) (g : Fin 4) (t : Fin 2048) :
    val_main_v135 (F := Ideal) x0 x1 x2 x3 (ix4 b h g t) = ∑ j, expR (queries x0 x2 b h g t) (keys x0 x1 x3 b h) j := by
  pointwise [val_main_v135, val_main_cst_16]
  simp only [e_at]

/-- The attention of one head, at an index. -/
theorem a_at (b : Fin 8) (h : Fin 2) (g : Fin 4) (t : Fin 2048) (d : Fin 128) :
    val_main_v139 (F := Ideal) x0 x1 x2 x3 (ix5 b h g t d) =
      attendE (queries x0 x2 b h g t) (keys x0 x1 x3 b h) (values x0 x1 b h) d := by
  pointwise [val_main_v136, val_main_v137, val_main_v138, val_main_v139]
  simp only [e_at, sum_at, v_at, attendE]

/-- The plain code's result, at an index. -/
theorem o_at (b : Fin 8) (t : Fin 2048) (l : Fin 1024) :
    val_main_v142 (F := Ideal) x0 x1 x2 x3 (ix3 b t l) =
      attendE (queries x0 x2 b ⟨l.val / 512, by omega⟩ ⟨l.val / 128 % 4, by omega⟩ t) (keys x0 x1 x3 b ⟨l.val / 512, by omega⟩)
        (values x0 x1 b ⟨l.val / 512, by omega⟩) ⟨l.val % 128, by omega⟩ := by
  pointwise [val_main_v140, val_main_v141, val_main_v142]
  simp only [a_at]

end Cert.ReferenceIdeal.Attn
-- ==== Proof.KArr.lean ====
module
public import proofs.«01_k».proof.Proof.Blks
public import proofs.«01_k».proof.Proof.BlockA
public import proofs.«01_k».proof.Proof.BlockB
public import proofs.«01_k».proof.Proof.Tables
public import proofs.«01_k».proof.Proof.Angle
public import proofs.«01_k».proof.Proof.RefB
@[expose] public section
set_option maxRecDepth 16384
noncomputable section
open Idealize.ShloMosaic Idealize.ShloMosaic.TcCoe Idealize.SL.Sem
open Idealize.ShloMosaic.Pipeline (Dat)
namespace Cert.KernelIdeal.Attn
open Cert.KernelIdeal Cert.KernelIdeal.Gen Cert.Attn Cert.ReferenceIdeal.Attn
variable (m : (ℓ : Loc nD τ sig) → Buf (Elt Ideal) ℓ) (c : Dev nD)

/-- The latent projections. -/
abbrev A0 : FVec Ideal S8x2048x4608 .f32 := m (c, Proc.tc.devRef main_arg0)
/-- The context's projections. -/
abbrev A1 : FVec Ideal S8x256x4608 .f32 := m (c, Proc.tc.devRef main_arg1)
/-- The query gain. -/
abbrev A2 : FVec Ideal S128 .f32 := m (c, Proc.tc.devRef main_arg2)
/-- The key gain. -/
abbrev A3 : FVec Ideal S128 .f32 := m (c, Proc.tc.devRef main_arg3)

/-- The angles are finite. -/
theorem angle_fin (t : Fin 2048) (i : Fin 64) : Real' (angle t i) := angle_real t i

/-- The cosine table's row. -/
theorem cos_row (t : Fin 2048) (d : Fin 128) : (V m c main_v40 (ix2 t d) : EReal) = Ideal.cos (angle t ⟨d.val / 2, by omega⟩) := by
  rw [V40 m c t d, V25 m c]
  rfl

/-- The sine table's row. -/
theorem sin_row (t : Fin 2048) (d : Fin 128) : (V m c main_v43 (ix2 t d) : EReal) =
    Ideal.sin (angle t ⟨d.val / 2, by omega⟩) * (if d.val % 2 = 0 then (-1 : EReal) else 1) := by
  rw [V43 m c t d, V25 m c, sign_at]
  rfl

/-- The score scale's name stands for the real number. -/
theorem qscale_eq : qscale = ((scale2 : ℝ) : EReal) := IdealRules.named_const.ideal_named_scalar _ _ _ _ rfl

/-- A row of the key scratch is a row of the plain keys. -/
theorem kScr_at (s : Fin cfg0.N) (j : Fin 2304) (e : Fin 128) :
    kScr (iblk m c 4 s) (iblk m c 6 s) (iblk m c 10 s) (iblk m c 11 s) (iblk m c 13 s) (ix2 j e) =
      keys (A0 m c) (A1 m c) (A3 m c) (bOf s) (hOf s) j e := by
  have hg : ∀ e : Fin 128, (iblk m c 13 s (ix2 0 e) : EReal) = A3 m c (ix1 e) := fun e => (gk_blk m c s e).trans (V45 m c e)
  unfold kScr keys kN
  by_cases h : j.val < 256
  · rw [dif_pos (show ((ix2 j e : S2304x128.Idx) 0).val < 256 from h), dif_pos h]
    exact congrArg₂ (fun x g => rms x g e) (funext fun e => kc_blk m c s ⟨j.val, h⟩ e) (funext hg)
  · rw [dif_neg (show ¬ ((ix2 j e : S2304x128.Idx) 0).val < 256 from h), dif_neg h]
    have hj : j.val - 256 < 2048 := by omega
    refine (rot_eq _ _ _ (angle ⟨j.val - 256, hj⟩) (fun d => (ck_blk m c s ⟨j.val - 256, hj⟩ d).trans (cos_row m c _ d))
      (fun d => (sk_blk m c s ⟨j.val - 256, hj⟩ d).trans (sin_row m c _ d)) e).trans ?_
    refine congrArg (fun z => rotR z (angle ⟨j.val - 256, hj⟩) e) ?_
    exact congrArg₂ rms (funext fun e => kl_blk m c s ⟨j.val - 256, hj⟩ e) (funext hg)

/-- A row of the value scratch is a row of the plain values. -/
theorem vScr_at (s : Fin cfg0.N) (j : Fin 2304) (e : Fin 128) :
    vScr (iblk m c 5 s) (iblk m c 7 s) (ix2 j e) = values (A0 m c) (A1 m c) (bOf s) (hOf s) j e := by
  unfold vScr values
  by_cases h : j.val < 256
  · rw [dif_pos (show ((ix2 j e : S2304x128.Idx) 0).val < 256 from h), dif_pos h]
    exact vc_blk m c s ⟨j.val, h⟩ e
  · rw [dif_neg (show ¬ ((ix2 j e : S2304x128.Idx) 0).val < 256 from h), dif_neg h]
    exact vl_blk m c s ⟨j.val - 256, by omega⟩ e

/-- A row of the kernel's rotated queries is a row of the plain ones. -/
theorem q_row (t : Fin cfg0.N) (g : Fin 4) (r : Fin 1024) (e : Fin 128) :
    rot (rms (fun e => pick (iblk m c 0 t) (iblk m c 1 t) (iblk m c 2 t) (iblk m c 3 t) g.val (ix3 0 r e)) fun e => iblk m c 12 t (ix2 0 e))
      (fun e => iblk m c 8 t (ix2 r e)) (fun e => iblk m c 9 t (ix2 r e)) e =
    queries (A0 m c) (A2 m c) (bOf t) (hOf t) g (rowOf t r) e := by
  refine (rot_eq _ _ _ (angle (rowOf t r)) (fun d => (cq_blk m c t r d).trans (cos_row m c _ d))
      (fun d => (sq_blk m c t r d).trans (sin_row m c _ d)) e).trans ?_
  refine congrArg (fun z => rotR z (angle (rowOf t r)) e) ?_
  exact congrArg₂ rms (funext fun e => q_blk m c t g r e) (funext fun e => (gq_blk m c t e).trans (V44 m c e))

section
variable (h2 : ∀ d, Real' (A2 m c (ix1 d))) (h3 : ∀ d, Real' (A3 m c (ix1 d)))
include h2 h3

/-- The plain queries are finite. -/
theorem queries_fin (b : Fin 8) (h : Fin 2) (g : Fin 4) (t : Fin 2048) (e : Fin 128) : Real' (queries (A0 m c) (A2 m c) b h g t e) :=
  rotR_real _ _ (rms_real _ _ h2) (angle_fin t) e

/-- The plain keys are finite. -/
theorem keys_fin (b : Fin 8) (h : Fin 2) (j : Fin 2304) (e : Fin 128) : Real' (keys (A0 m c) (A1 m c) (A3 m c) b h j e) := by
  unfold keys
  split
  · exact rms_real _ _ h3 e
  · exact rotR_real _ _ (rms_real _ _ h3) (angle_fin _) e

/-- One block of the kernel's result, from scratches that hold the plain keys and values. -/
theorem blockOut_at (t : Fin cfg0.N) (K W : Vec Ideal S2304x128 .bf16)
    (hK : ∀ j e, K (ix2 j e) = keys (A0 m c) (A1 m c) (A3 m c) (bOf t) (hOf t) j e)
    (hW : ∀ j e, W (ix2 j e) = values (A0 m c) (A1 m c) (bOf t) (hOf t) j e) (y : S1x1024x512.Idx) (g : Fin 4) (hg : (y 2).val / 128 = g.val) :
    blockOut K W (iblk m c 0 t) (iblk m c 1 t) (iblk m c 2 t) (iblk m c 3 t) (iblk m c 8 t) (iblk m c 9 t) (iblk m c 12 t) y =
      attendE (queries (A0 m c) (A2 m c) (bOf t) (hOf t) g (rowOf t (y 1))) (keys (A0 m c) (A1 m c) (A3 m c) (bOf t) (hOf t))
        (values (A0 m c) (A1 m c) (bOf t) (hOf t)) ⟨(y 2).val % 128, by omega⟩ := by
  rw [← attend_eq _ _ _ (queries_fin m c h2 h3 _ _ _ _) (fun j e => keys_fin m c h2 h3 _ _ j e)]
  unfold blockOut
  rw [hg, qscale_eq]
  have eK : (fun j e => K (ix2 j e)) = keys (A0 m c) (A1 m c) (A3 m c) (bOf t) (hOf t) := funext fun j => funext fun e => hK j e
  have eW : (fun j e => W (ix2 j e)) = values (A0 m c) (A1 m c) (bOf t) (hOf t) := funext fun j => funext fun e => hW j e
  rw [eK, eW]
  refine congrArg (fun q => attend2 q _ _ _) (funext fun e => ?_)
  exact congrArg (· * ((scale2 : ℝ) : EReal)) (q_row m c t g (y 1) e)

/-- What each grid point leaves in the result's block. -/
theorem point (t : Fin cfg0.N) (y : S1x1024x512.Idx) (g : Fin 4) (hg : (y 2).val / 128 = g.val) :
    (outsAt0 m c t.val t.isLt).1 y =
      attendE (queries (A0 m c) (A2 m c) (bOf t) (hOf t) g (rowOf t (y 1))) (keys (A0 m c) (A1 m c) (A3 m c) (bOf t) (hOf t))
        (values (A0 m c) (A1 m c) (bOf t) (hOf t)) ⟨(y 2).val % 128, by omega⟩ := by
  by_cases h : t.val % 2 = 0
  · rw [blockA m c t h y]
    exact blockOut_at m c h2 h3 t _ _ (fun j e => (congrFun (scrK m c t h) _).trans (kScr_at m c t j e))
      (fun j e => (congrFun (scrV m c t h) _).trans (vScr_at m c t j e)) y g hg
  · rw [blockB m c t h y]
    have hs : t.val - 1 < cfg0.N := Nat.lt_of_le_of_lt (Nat.sub_le _ _) t.isLt
    have hp : (⟨t.val - 1, hs⟩ : Fin cfg0.N).val % 2 = 0 := by show (t.val - 1) % 2 = 0; omega
    have eb : bOf ⟨t.val - 1, hs⟩ = bOf t := Fin.ext (by show (t.val - 1) / 4 = t.val / 4; omega)
    have eh : hOf ⟨t.val - 1, hs⟩ = hOf t := Fin.ext (by show (t.val - 1) / 2 % 2 = t.val / 2 % 2; omega)
    have hK : ∀ j e, (outsAt0 m c (t.val - 1) hs).2.1 (ix2 j e) = keys (A0 m c) (A1 m c) (A3 m c) (bOf t) (hOf t) j e := fun j e =>
      ((congrFun (scrK m c ⟨t.val - 1, hs⟩ hp) _).trans (kScr_at m c ⟨t.val - 1, hs⟩ j e)).trans (by rw [eb, eh])
    have hW : ∀ j e, (outsAt0 m c (t.val - 1) hs).2.2 (ix2 j e) = values (A0 m c) (A1 m c) (bOf t) (hOf t) j e := fun j e =>
      ((congrFun (scrV m c ⟨t.val - 1, hs⟩ hp) _).trans (vScr_at m c ⟨t.val - 1, hs⟩ j e)).trans (by rw [eb, eh])
    exact blockOut_at m c h2 h3 t _ _ hK hW y g hg

/-- The kernel's result is the plain code's. -/
theorem final : (dats m 0 c).arrAt 14 cfg0.N =
    Cert.ReferenceIdeal.Read.val_main_v142 (F := Ideal) (A0 m c) (A1 m c) (A2 m c) (A3 m c) := by
  refine (dats m 0 c).arrAt_eq_of_covers 14 _ (by decide +kernel) fun t hf y => ?_
  blk_simp
  rw [after0_14]
  have hy : (y 2).val < 512 := (y 2).isLt
  have hy1 : (y 1).val < 1024 := (y 1).isLt
  refine (point m c h2 h3 t y ⟨(y 2).val / 128, by omega⟩ rfl).trans ?_
  have hh := (hOf t).isLt
  have hi : (((cfg0.win 14).blk t).view.emb y : S8x2048x1024.Idx) = ix3 (bOf t) (rowOf t (y 1)) ⟨(hOf t).val * 512 + (y 2).val, by omega⟩ := by
    blk_ext [idx t]
  refine Eq.trans ?_ (congrArg (Cert.ReferenceIdeal.Read.val_main_v142 (F := Ideal) (A0 m c) (A1 m c) (A2 m c) (A3 m c)) hi).symm
  rw [o_at]
  have e1 : (⟨((hOf t).val * 512 + (y 2).val) / 512, by omega⟩ : Fin 2) = hOf t := Fin.ext (by show ((hOf t).val * 512 + (y 2).val) / 512 = (hOf t).val; omega)
  have e2 : (⟨((hOf t).val * 512 + (y 2).val) / 128 % 4, by omega⟩ : Fin 4) = ⟨(y 2).val / 128, by omega⟩ :=
    Fin.ext (by show ((hOf t).val * 512 + (y 2).val) / 128 % 4 = (y 2).val / 128; omega)
  have e3 : (⟨((hOf t).val * 512 + (y 2).val) % 128, by omega⟩ : Fin 128) = ⟨(y 2).val % 128, by omega⟩ :=
    Fin.ext (by show ((hOf t).val * 512 + (y 2).val) % 128 = (y 2).val % 128; omega)
  simp only [e1, e2, e3]

end
end Cert.KernelIdeal.Attn
-- ==== Proof.Gqa.lean ====
module
public import proofs.«01_k».proof.Defs
public import proofs.«01_k».proof.Proof.KArr
public import proofs.«01_k».proof.Proof.Gen.Kernel.Frame
public import proofs.«01_k».proof.Proof.Gen.ReferenceIdeal.Run
public import Idealize.ShloMosaic.Lib.Affine
public import Idealize.ShloMosaic.Adequacy
public import Idealize.ShloMosaic.Init
@[expose] public section
set_option maxRecDepth 16384
noncomputable section
open Idealize.ShloMosaic Idealize.ShloMosaic.TcCoe Idealize.SL.Sem
namespace Cert.Gqa
open Cert.Attn

/-- The precondition's one side condition. -/
theorem preFacts : Cert.Pre_finite_gains.Facts := ⟨by decide⟩

/-- A number whose absolute value is below infinity is finite. -/
theorem fin_of_abs (x : EReal) (h : Ideal.cmp .olt (max x (-x)) (Ideal.ofBits FTy.f32 0x7F800000#32) = 1#1) : Real' x := by
  have ht : Ideal.ofBits FTy.f32 0x7F800000#32 = ⊤ := by simp [Ideal.ofBits, Ideal.ieee]
  rw [ht] at h
  induction x using EReal.rec with
  | coe r => exact ⟨r, rfl⟩
  | top => simp [Ideal.cmp] at h
  | bot => simp [Ideal.cmp] at h

/-- The precondition says that both gains are finite. -/
theorem gains [hP : Cert.Pre_finite_gains.Facts] (x0 : FVec Ideal Cert.Pre_finite_gains.S8x2048x4608 .f32)
    (x1 : FVec Ideal Cert.Pre_finite_gains.S8x256x4608 .f32) (x2 x3 : FVec Ideal Cert.Pre_finite_gains.S128 .f32)
    (h : Cert.Pre_finite_gains.fn (F := Ideal) x0 x1 x2 x3 = fun _ => 1#1) (d : Fin 128) : Real' (x2 (ix1 d)) ∧ Real' (x3 (ix1 d)) := by
  have hd := congrFun h (ix1 d)
  have hd' := IntOp.andi_eq_one.1 hd
  exact ⟨fin_of_abs _ hd'.1, fin_of_abs _ hd'.2⟩

/-- The kernel runs and leaves its arguments. -/
theorem frame_p : Cert.quiescent_Kernel (hKernel := Cert.Kernel.Gen.facts) := fun m ρ _ => Cert.Kernel.Gen.frame m ρ
/-- So does its ideal form. -/
theorem frame_pi : Cert.quiescent_KernelIdeal (hKernelIdeal := Cert.KernelIdeal.Gen.facts) := fun m ρ _ => Cert.KernelIdeal.Gen.frame m ρ
/-- And under the precondition. -/
theorem frame_pi' : Cert.quiescent_KernelIdeal_pre_finite_gains (hKernelIdeal := Cert.KernelIdeal.Gen.facts) (hPre_finite_gains := preFacts) :=
  fun m ρ _ => Cert.KernelIdeal.Gen.frame m ρ

/-- The plain code runs and leaves its arguments. -/
theorem frame_r : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- And under the precondition. -/
theorem frame_r' : Cert.quiescent_ReferenceIdeal_pre_finite_gains (hReferenceIdeal := Cert.ReferenceIdeal.Gen.facts) (hPre_finite_gains := preFacts) :=
  fun m ρ _ => frame_r m ρ trivial

/-- The folded score scale rounds the real number it is named for. -/
theorem preserves : Cert.preserves_Kernel_KernelIdeal :=
  IdealRules.named_const.statement Cert.KernelIdeal.κ "qk_scale" .f32 0x3E0293EE#32 _ rfl

/-- The kernel and the plain attention end with equal results. -/
theorem algebraic : Cert.algebraic_KernelIdeal_ReferenceIdeal_pre_finite_gains (hKernelIdeal := Cert.KernelIdeal.Gen.facts)
    (hReferenceIdeal := Cert.ReferenceIdeal.Gen.facts) (hPre_finite_gains := preFacts) := by
  intro m ρ m' ρ' hpre hagree
  refine ⟨fun c => Cert.ReferenceIdeal.Read.val_main_v142 (F := Ideal) (Cert.KernelIdeal.Attn.A0 m c) (Cert.KernelIdeal.Attn.A1 m c)
      (Cert.KernelIdeal.Attn.A2 m c) (Cert.KernelIdeal.Attn.A3 m c), ?_, ?_⟩
  · refine (θ_run Cert.KernelIdeal.defs _ _).mono (fun r h c => ⟨(h c).1.trans ?_, (h c).2⟩) (Cert.KernelIdeal.Value.run_blocks (F := Ideal) m ρ)
    exact Cert.KernelIdeal.Attn.final m c (fun d => (gains (hP := preFacts) _ _ _ _ (hpre c) d).1) (fun d => (gains (hP := preFacts) _ _ _ _ (hpre c) d).2)
  · refine (θ_run Cert.ReferenceIdeal.defs _ _).mono (fun r h c => ⟨(h c).1.trans ?_, (h c).2⟩) (Cert.ReferenceIdeal.Value.run (F := Ideal) m' ρ')
    refine (Cert.ReferenceIdeal.Read.val_main_v142_eq (StableHlo.launchContents m' c)).trans ?_
    show Cert.ReferenceIdeal.Read.val_main_v142 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = _
    rw [(hagree c).1, (hagree c).2.1, (hagree c).2.2.1, (hagree c).2.2.2]

end Cert.Gqa
-- ==== Proof.InRun.lean ====
module
public import proofs.«01_k».proof.Proof.Gen.Kernel2Ideal.Frame
public import proofs.«01_k».proof.Proof.Gen.Kernel2Ideal.Skeleton
public import Idealize.ShloMosaic.Lib.Claim
@[expose] public section
set_option maxRecDepth 16384
noncomputable section
namespace Cert.Kernel2Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]
local notation "𝕄" => MT nD τ sig Unit (Elt F) ℕ (UR sig nD τ) ℕ

/-- A row block, read whole. -/
abbrev rX : Rect S1x1024x2048 := Rect.unit (s := S1x1024x2048) ![0, 0, 0] S1x1024x2048.size inb_S1x1024x2048_S1x1024x2048_0_0_0
/-- The gains, read whole. -/
abbrev rG : Rect S1x2048 := Rect.unit (s := S1x2048) ![0, 0] S1x2048.size inb_S1x2048_S1x2048_0_0
/-- A shift or a scale, read whole. -/
abbrev rM : Rect S1x1x2048 := Rect.unit (s := S1x1x2048) ![0, 0, 0] S1x1x2048.size inb_S1x1x2048_S1x1x2048_0_0_0
/-- A block of the weight's columns, read whole. -/
abbrev rW : Rect S2048x768 := Rect.unit (s := S2048x768) ![0, 0] S2048x768.size inb_S2048x768_S2048x768_0_0
/-- A block of the result, written whole. -/
abbrev rO : Rect S1x1024x768 := Rect.unit (s := S1x1024x768) ![0, 0, 0] S1x1024x768.size inb_S1x1024x768_S1x1024x768_0_0_0

/-- The normalised and modulated rows of a block. -/
def rows (x0 : Vec F S1x1024x2048 .f32) (x1 : Vec F S1x2048 .f32) (x2 x3 : Vec F S1x1x2048 .f32) : FVec F S1x1024x2048 .bf16 :=
  k0_pay1 (k0_pay4 (View.ld x0 rX) (View.ld x1 rG) (View.ld x3 rM) (View.ld x2 rM))

/-- The projection of normalised rows by a block of columns. -/
def proj (h : FVec F S1x1024x2048 .bf16) (x4 : Vec F S2048x768 .bf16) : Vec F S1x1024x768 .f32 :=
  View.canon [⟨rO, k0_pay2 h (View.ld x4 rW)⟩]

/-- The result's store covers its block. -/
theorem cover_proj (p0 : Vec F S1x1024x768 .f32) (y : S1x1024x768.Idx) :
    ∃ pc ∈ ([⟨rO, p0⟩] : List (View.Piece (Elt F) S1x1024x768 .f32)), y ∈ pc.1.set :=
  View.cover_of_tiled [⟨rO, p0⟩] S1x1024x768.size (by rfl) y

/-- Rows normalised beside a projection are the same rows. -/
theorem pay3_eq (x : Vec F S1x1024x2048 .f32) (g : Vec F S1x2048 .f32) (a b : Vec F S1x1x2048 .f32) :
    k0_pay3 (k0_pay6 x g) a b = k0_pay1 (k0_pay4 x g a b) := rfl

/-- A slot written whole reads what was written. -/
theorem slot_read (v : View sig .tc .vmem S2x1024x2048 .bf16) (f : v.ty.Contents (Elt F)) (off : Fin 3 → ℕ)
    (inb : ∀ a, off a + S1x1024x2048.size a ≤ S2x1024x2048.size a) (w : Vec F S1x1024x2048 .bf16) (x : S1x1024x2048.Idx) :
    v.read (Elt F) (v.writes (Elt F) f [⟨Rect.unit (s := S2x1024x2048) off S1x1024x2048.size inb, w⟩])
      ((Rect.unit (s := S2x1024x2048) off S1x1024x2048.size inb).emb x) = w x :=
  View.read_writes_cons_emb v f (Rect.unit (s := S2x1024x2048) off S1x1024x2048.size inb) w [] x

section
variable (c : Dev nD) (E : Set ℕ) (i : grid0.Coords) (arg2 : Memref sig .tc .vmem S1x1024x2048 .f32) (harg2 : arg2.IsWhole)
  (arg3 : Memref sig .tc .vmem S1x2048 .f32) (harg3 : arg3.IsWhole) (arg4 : Memref sig .tc .vmem S1x1x2048 .f32) (harg4 : arg4.IsWhole)
  (arg5 : Memref sig .tc .vmem S1x1x2048 .f32) (harg5 : arg5.IsWhole) (arg6 : Memref sig .tc .vmem S2048x768 .bf16) (harg6 : arg6.IsWhole)
  (arg7 : Memref sig .tc .vmem S1x1024x768 .f32) (harg7 : arg7.IsWhole) (arg8 : Memref sig .tc .vmem S2x1024x2048 .bf16) (harg8 : arg8.IsWhole)
  (x0 : Vec F S1x1024x2048 .f32) (x1 : Vec F S1x2048 .f32) (x2 x3 : Vec F S1x1x2048 .f32) (x4 : Vec F S2048x768 .bf16)
  (o : Vec F S1x1024x768 .f32) (S : Vec F S2x1024x2048 .bf16)

/-- What the body holds of its inputs. -/
abbrev ins : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4)

/-- A point that does nothing. -/
theorem run_none (K : PUnit → sProp 𝕄) (h1 : ¬ k0_cond1 i = 1#1) (h2 : ¬ k0_cond2 i = 1#1) (h3 : ¬ k0_cond3 i = 1#1) :
    K PUnit.unit ⊢ wp frame (wpE (defs₀ (F := F)) Variants.none c none) E
      (cc0_normmod_proj i arg2 harg2 arg3 harg3 arg4 harg4 arg5 harg5 arg6 harg6 arg7 harg7 arg8 harg8) K := by
  simp only [cc0_normmod_proj_eq_skeleton]; unfold cc0_normmod_proj_skel
  iintro Hk
  sl_exec (disch := first | sl_exact h1 | sl_exact h2 | sl_exact h3)
  sl_step
  iexact Hk

set_option maxHeartbeats 1000000 in
/-- The last point of the first row block: its rows are normalised into their slot. -/
theorem run_first (K : PUnit → sProp 𝕄) (h1 : k0_cond1 i = 1#1) (h2 : ¬ k0_cond2 i = 1#1) (h3 : ¬ k0_cond3 i = 1#1) :
    iprop(ins c arg2 arg3 arg4 arg5 arg6 x0 x1 x2 x3 x4 ∗ owns (c : Thread nD τ) arg8 fullShare S
      ∗ (iprop(ins c arg2 arg3 arg4 arg5 arg6 x0 x1 x2 x3 x4 ∗ (∃ S', ⌜∀ x, S' ((Rect.unit (s := S2x1024x2048) (k0_off1 i) S1x1024x2048.size (k0_off1_inb i h1)).emb x) = rows x0 x1 x2 x3 x⌝
          ∗ owns (c : Thread nD τ) arg8 fullShare S')) -∗ K PUnit.unit))
    ⊢ wp frame (wpE (defs₀ (F := F)) Variants.none c none) E
      (cc0_normmod_proj i arg2 harg2 arg3 harg3 arg4 harg4 arg5 harg5 arg6 harg6 arg7 harg7 arg8 harg8) K := by
  simp only [cc0_normmod_proj_eq_skeleton]; unfold cc0_normmod_proj_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩⟩, ⟨%f6, %hf6, H6⟩, Hk⟩
  subst hf0 hf1 hf2 hf3 hf4 hf6
  sl_exec (disch := first | sl_exact h1 | sl_exact h2 | sl_exact h3)
  sl_step
  iapply Hk
  isplitl [H0 H1 H2 H3 H4]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  iexists _; isplitr
  swap
  · iexists _; isplitr
    swap; · iexact H6
    ipureintro; rfl
  ipureintro
  intro x
  refine (slot_read arg8.view f6 (k0_off1 i) (k0_off1_inb i h1) _ x).trans (congrFun ?_ x)
  unfold rows
  refine congrArg k0_pay1 ?_
  unfold run_first.sl.r
  rfl

set_option maxHeartbeats 1000000 in
/-- A point that projects the rows of the slot before. -/
theorem run_proj (K : PUnit → sProp 𝕄) (h1 : ¬ k0_cond1 i = 1#1) (h2 : k0_cond2 i = 1#1) (h3 : ¬ k0_cond3 i = 1#1) :
    iprop(ins c arg2 arg3 arg4 arg5 arg6 x0 x1 x2 x3 x4 ∗ owns (c : Thread nD τ) arg7 fullShare o ∗ owns (c : Thread nD τ) arg8 fullShare S
      ∗ (iprop(ins c arg2 arg3 arg4 arg5 arg6 x0 x1 x2 x3 x4
          ∗ owns (c : Thread nD τ) arg7 fullShare (proj (View.ld S (Rect.unit (s := S2x1024x2048) (k0_off2 i) S1x1024x2048.size (k0_off2_inb i h2))) x4)
          ∗ owns (c : Thread nD τ) arg8 fullShare S) -∗ K PUnit.unit))
    ⊢ wp frame (wpE (defs₀ (F := F)) Variants.none c none) E
      (cc0_normmod_proj i arg2 harg2 arg3 harg3 arg4 harg4 arg5 harg5 arg6 harg6 arg7 harg7 arg8 harg8) K := by
  simp only [cc0_normmod_proj_eq_skeleton]; unfold cc0_normmod_proj_skel
  unfold ins owns
  iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%f6, %hf6, H6⟩, Hk⟩
  subst hf0 hf1 hf2 hf3 hf4 hf5 hf6
  sl_exec (disch := first | sl_exact h1 | sl_exact h2 | sl_exact h3)
  sl_step
  iapply Hk
  isplitl [H0 H1 H2 H3 H4]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  isplitl [H5]
  · iexists _; isplitr
    swap; · iexact H5
    ipureintro
    exact View.read_writes_eq_canon _ _ _ (cover_proj _)
  iexists f6; isplitr; · ipureintro; rfl
  iexact H6

set_option maxHeartbeats 1000000 in
/-- The last point of a later row block: the rows before are projected, and this block's rows are normalised into their slot. -/
theorem run_both (K : PUnit → sProp 𝕄) (h1 : ¬ k0_cond1 i = 1#1) (h2 : ¬ k0_cond2 i = 1#1) (h3 : k0_cond3 i = 1#1) :
    iprop(ins c arg2 arg3 arg4 arg5 arg6 x0 x1 x2 x3 x4 ∗ owns (c : Thread nD τ) arg7 fullShare o ∗ owns (c : Thread nD τ) arg8 fullShare S
      ∗ (iprop(ins c arg2 arg3 arg4 arg5 arg6 x0 x1 x2 x3 x4
          ∗ owns (c : Thread nD τ) arg7 fullShare (proj (View.ld S (Rect.unit (s := S2x1024x2048) (k0_off3 i) S1x1024x2048.size (k0_off3_inb i h3))) x4)
          ∗ (∃ S', ⌜∀ x, S' ((Rect.unit (s := S2x1024x2048) (k0_off4 i) S1x1024x2048.size (k0_off4_inb i h3)).emb x) = rows x0 x1 x2 x3 x⌝
            ∗ owns (c : Thread nD τ) arg8 fullShare S')) -∗ K PUnit.unit))
    ⊢ wp frame (wpE (defs₀ (F := F)) Variants.none c none) E
      (cc0_normmod_proj i arg2 harg2 arg3 harg3 arg4 harg4 arg5 harg5 arg6 harg6 arg7 harg7 arg8 harg8) K := by
  simp only [cc0_normmod_proj_eq_skeleton]; unfold cc0_normmod_proj_skel
  simp only [k0_part2_eq_skeleton]
  unfold ins owns
  iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%f6, %hf6, H6⟩, Hk⟩
  subst hf0 hf1 hf2 hf3 hf4 hf5 hf6
  sl_exec (disch := first | sl_exact h1 | sl_exact h2 | sl_exact h3)
  sl_step
  iapply Hk
  isplitl [H0 H1 H2 H3 H4]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  isplitl [H5]
  · iexists _; isplitr
    swap; · iexact H5
    ipureintro
    exact View.read_writes_eq_canon _ _ _ (cover_proj _)
  iexists _; isplitr
  swap
  · iexists _; isplitr
    swap; · iexact H6
    ipureintro; rfl
  ipureintro
  intro x
  refine (slot_read arg8.view f6 (k0_off4 i) (k0_off4_inb i h3) _ x).trans (congrFun ?_ x)
  unfold rows
  rw [← pay3_eq]
  unfold run_both.sl.r
  rfl

end

/-- Which points do what, and which slot each reads and writes. -/
theorem pts : ∀ t : Fin cfg0.N, (k0_cond1 (grid0.coords t) = 1#1 ↔ t.val = 5) ∧
    (k0_cond2 (grid0.coords t) = 1#1 ↔ 6 ≤ t.val ∧ (t.val % 6 ≠ 5 ∨ t.val = 101)) ∧
    (k0_cond3 (grid0.coords t) = 1#1 ↔ 6 ≤ t.val ∧ t.val % 6 = 5 ∧ t.val ≠ 101) ∧
    k0_off1 (grid0.coords t) = ![t.val / 6 % 2, 0, 0] ∧ k0_off2 (grid0.coords t) = ![(t.val / 6 + 1) % 2, 0, 0] ∧
    k0_off3 (grid0.coords t) = ![(t.val / 6 + 1) % 2, 0, 0] ∧ k0_off4 (grid0.coords t) = ![t.val / 6 % 2, 0, 0] :=
  (by decide +kernel : ∀ t : Fin grid0.N, _)

/-- The result's window rests over the first row block, and is written at every point after. -/
theorem rests : ∀ t : Fin cfg0.N, (t.val < 6 → cfg0.idle 5 (cfg0.grid.coords t) = true ∧ (cfg0.win 5).flush t = false) ∧
    (6 ≤ t.val → cfg0.idle 5 (cfg0.grid.coords t) = false) :=
  (by decide +kernel : ∀ t : Fin grid0.N, (t.val < 6 → cfg0.idle 5 (grid0.coords t) = true ∧ win0_5.flush t = false) ∧
    (6 ≤ t.val → cfg0.idle 5 (grid0.coords t) = false))

variable (m : (ℓ : Loc nD τ sig) → Buf (Elt F) ℓ) (ρ : Dev nD → PrngReg)

/-- The number of grid points. -/
theorem lt102 (t : Fin cfg0.N) : t.val < 102 := lt_of_lt_of_eq t.isLt N_0

/-- The point that normalises row block `r`. -/
def pt (r : ℕ) : Fin cfg0.N := ⟨(6 * r + 5) % 102, lt_of_lt_of_eq (Nat.mod_lt _ (by decide)) N_0.symm⟩

/-- A row block's last point normalises it. -/
theorem pt_eq (t : Fin cfg0.N) (h : t.val % 6 = 5) : pt (t.val / 6) = t :=
  Fin.ext (by have := lt102 t; show (6 * (t.val / 6) + 5) % 102 = t.val; omega)

/-- Row block `r`, normalised and modulated. -/
def hrow (c : Dev nD) (r : ℕ) : FVec F S1x1024x2048 .bf16 :=
  rows (iblk m c 0 (pt r)) (iblk m c 1 (pt r)) (iblk m c 2 (pt r)) (iblk m c 3 (pt r))

/-- Before point `n` of a row block but the first, the other slot holds the normalised rows of the block before. -/
def Good (c : Dev nD) (n : ℕ) (S : Vec F S2x1024x2048 .bf16) : Prop :=
  6 ≤ n → n < 102 → ∀ (off : Fin 3 → ℕ) (inb : ∀ a, off a + S1x1024x2048.size a ≤ S2x1024x2048.size a), off = ![(n / 6 + 1) % 2, 0, 0] →
    View.ld S (Rect.unit (s := S2x1024x2048) off S1x1024x2048.size inb) = hrow m c (n / 6 - 1)

/-- A point that leaves the slots keeps what they hold. -/
theorem Good.keep {c : Dev nD} {t : Fin cfg0.N} {S : Vec F S2x1024x2048 .bf16} (h : Good m c t.val S) (ht : t.val % 6 ≠ 5 ∨ t.val = 101) :
    Good m c (t.val + 1) S := by
  intro h6 h102 off inb ho
  have e : (t.val + 1) / 6 = t.val / 6 := by omega
  rw [e] at ho ⊢
  exact h (by omega) (by omega) off inb ho

/-- The point that normalises a row block leaves it in the slot the next row block reads. -/
theorem good_new {c : Dev nD} {t : Fin cfg0.N} {S : Vec F S2x1024x2048 .bf16} {off : Fin 3 → ℕ}
    {inb : ∀ a, off a + S1x1024x2048.size a ≤ S2x1024x2048.size a} (ht : t.val % 6 = 5) (ho : off = ![t.val / 6 % 2, 0, 0])
    (h : ∀ x, S ((Rect.unit (s := S2x1024x2048) off S1x1024x2048.size inb).emb x) = rows (iblk m c 0 t) (iblk m c 1 t) (iblk m c 2 t) (iblk m c 3 t) x) :
    Good m c (t.val + 1) S := by
  intro h6 h102 off' inb' ho'
  have e : (t.val + 1) / 6 = t.val / 6 + 1 := by omega
  have e2 : off' = off := by rw [ho', ho, e]; congr 1; omega
  subst e2
  unfold hrow
  rw [e, Nat.add_sub_cancel, pt_eq t ht]
  exact funext h

/-- The scratch, as a whole operand. -/
abbrev scM : Memref sig .tc .vmem S2x1024x2048 .bf16 := Memref.whole cc0_scratch0

/-- The invariant before point `n`: the scratch with the slots as said, and the generator's register. -/
def Phi (c : Dev nD) (n : ℕ) : sProp 𝕄 :=
  iprop((∃ S, ⌜Good m c n S⌝ ∗ owns (c : Thread nD τ) scM fullShare S) ∗ (∃ r, prngReg c r))

/-- What the launch hands over, with the scratch as an operand. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The proof data: the inputs' blocks stay, the result's block is the projection of the row block before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => proj (hrow m c (t.val / 6 - 1)) (iblk m c 4 t)
  Φ t := Phi m c t.val
  q _ := fullShare
  owed _ := 0

/-- The arrays are as the region finds them. -/
theorem A_eq (c : Dev nD) (w : Fin cfg0.W) : (dats m 0 c).A w = V m c (Pipeline.arrRef spec0 w) := by dsimp only [dats]

/-- What the body leaves in each window. -/
theorem after0 (c : Dev nD) (t : Fin cfg0.N) : (dats m 0 c).after 0 t = iblk m c 0 t := by dsimp only [dats]
/-- The gains stay. -/
theorem after1 (c : Dev nD) (t : Fin cfg0.N) : (dats m 0 c).after 1 t = iblk m c 1 t := by dsimp only [dats]
/-- The shifts stay. -/
theorem after2 (c : Dev nD) (t : Fin cfg0.N) : (dats m 0 c).after 2 t = iblk m c 2 t := by dsimp only [dats]
/-- The scales stay. -/
theorem after3 (c : Dev nD) (t : Fin cfg0.N) : (dats m 0 c).after 3 t = iblk m c 3 t := by dsimp only [dats]
/-- The weight stays. -/
theorem after4 (c : Dev nD) (t : Fin cfg0.N) : (dats m 0 c).after 4 t = iblk m c 4 t := by dsimp only [dats]
/-- The result is the projection. -/
theorem after5 (c : Dev nD) (t : Fin cfg0.N) : (dats m 0 c).after 5 t = proj (hrow m c (t.val / 6 - 1)) (iblk m c 4 t) := by dsimp only [dats]

/-- The rows' buffer holds their block. -/
theorem before0 (c : Dev nD) (t : Fin cfg0.N) (d) : (dats m 0 c).before 0 t d = iblk m c 0 t := before0_0_of m (dats m 0 c) (A_eq m c 0) (after0 m c) t d
/-- The gains' buffer holds their block. -/
theorem before1 (c : Dev nD) (t : Fin cfg0.N) (d) : (dats m 0 c).before 1 t d = iblk m c 1 t := before0_1_of m (dats m 0 c) (A_eq m c 1) (after1 m c) t d
/-- The shifts' buffer holds their block. -/
theorem before2 (c : Dev nD) (t : Fin cfg0.N) (d) : (dats m 0 c).before 2 t d = iblk m c 2 t := before0_2_of m (dats m 0 c) (A_eq m c 2) (after2 m c) t d
/-- The scales' buffer holds their block. -/
theorem before3 (c : Dev nD) (t : Fin cfg0.N) (d) : (dats m 0 c).before 3 t d = iblk m c 3 t := before0_3_of m (dats m 0 c) (A_eq m c 3) (after3 m c) t d
/-- The weight's buffer holds its block. -/
theorem before4 (c : Dev nD) (t : Fin cfg0.N) (d) : (dats m 0 c).before 4 t d = iblk m c 4 t := before0_4_of m (dats m 0 c) (A_eq m c 4) (after4 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

/-- At a resting point the result's buffer is left as found. -/
theorem leaves_rest (c : Dev nD) (t : Fin cfg0.N) (h : t.val < 6) : (dats m 0 c).leavesExact 5 t =
    iprop(∃ d, owns (c : Thread nD τ) (st0_5 t) fullShare ((dats m 0 c).before 5 t d)) :=
  (dats m 0 c).leavesExact_idle 5 t ((rests t).1 h).1 ((rests t).1 h).2

/-- At a later point the result's buffer is left at the projection. -/
theorem leaves_live (c : Dev nD) (t : Fin cfg0.N) (h : 6 ≤ t.val) : (dats m 0 c).leavesExact 5 t =
    owns (c : Thread nD τ) (st0_5 t) fullShare (proj (hrow m c (t.val / 6 - 1)) (iblk m c 4 t)) := by
  unfold Dat.leavesExact
  rw [(rests t).2 h]
  exact congrArg (fun x => owns (c : Thread nD τ) (st0_5 t) fullShare x) (after5 m c t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl, after0, after1, after2, after3, after4,
    show (dats m 0 c).Φ t.succ = Phi m c (t.val + 1) from rfl, show (dats m 0 c).Φ t.castSucc = Phi m c t.val from rfl]
  unfold Phi
  obtain ⟨p1, p2, p3, o1, o2, o3, o4⟩ := pts t
  have hN := lt102 t
  by_cases h6 : t.val < 6
  · rw [leaves_rest m c t h6]
    have n2 : ¬ k0_cond2 (grid0.coords t) = 1#1 := fun h => by have := p2.mp h; omega
    have n3 : ¬ k0_cond3 (grid0.coords t) = 1#1 := fun h => by have := p3.mp h; omega
    by_cases h5 : t.val = 5
    · iintro ⟨⟨⟨%S, %hS, HS⟩, Hg⟩, Ho, ⟨%d0, H0⟩, ⟨%d1, H1⟩, ⟨%d2, H2⟩, ⟨%d3, H3⟩, ⟨%d4, H4⟩, H5⟩
      iapply (run_first c Set.univ (grid0.coords t) _ _ _ _ _ _ _ _ _ _ _ _ _ _ (iblk m c 0 t) (iblk m c 1 t) (iblk m c 2 t) (iblk m c 3 t) (iblk m c 4 t) S _ (p1.mpr h5) n2 n3)
      unfold ins
      isplitl [H0 H1 H2 H3 H4]
      · isplitl [H0]; · iexact H0
        isplitl [H1]; · iexact H1
        isplitl [H2]; · iexact H2
        isplitl [H3]; · iexact H3
        iexact H4
      isplitl [HS]; · iexact HS
      iintro ⟨⟨H0, H1, H2, H3, H4⟩, ⟨%S', %hS', HS⟩⟩
      isplitl [HS Hg]
      · isplitl [HS]
        · iexists S'; isplitr
          · ipureintro; exact good_new m (by omega) o1 hS'
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have n1 : ¬ k0_cond1 (grid0.coords t) = 1#1 := fun h => h5 (p1.mp h)
      iintro ⟨⟨⟨%S, %hS, HS⟩, Hg⟩, Ho, ⟨%d0, H0⟩, ⟨%d1, H1⟩, ⟨%d2, H2⟩, ⟨%d3, H3⟩, ⟨%d4, H4⟩, H5⟩
      iapply (run_none c Set.univ (grid0.coords t) _ _ _ _ _ _ _ _ _ _ _ _ _ _ _ n1 n2 n3)
      isplitl [HS Hg]
      · isplitl [HS]
        · iexists S; isplitr
          · ipureintro; exact hS.keep m (by omega)
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
  · rw [leaves_live m c t (by omega)]
    have n1 : ¬ k0_cond1 (grid0.coords t) = 1#1 := fun h => by have := p1.mp h; omega
    by_cases h5 : t.val % 6 = 5 ∧ t.val ≠ 101
    · have n2 : ¬ k0_cond2 (grid0.coords t) = 1#1 := fun h => by have := p2.mp h; omega
      have y3 : k0_cond3 (grid0.coords t) = 1#1 := p3.mpr ⟨by omega, h5⟩
      iintro ⟨⟨⟨%S, %hS, HS⟩, Hg⟩, Ho, ⟨%d0, H0⟩, ⟨%d1, H1⟩, ⟨%d2, H2⟩, ⟨%d3, H3⟩, ⟨%d4, H4⟩, ⟨%d5, H5⟩⟩
      rw [← hS (by omega) hN (k0_off3 (grid0.coords t)) (k0_off3_inb (grid0.coords t) y3) o3]
      iapply (run_both c Set.univ (grid0.coords t) _ _ _ _ _ _ _ _ _ _ _ _ _ _ (iblk m c 0 t) (iblk m c 1 t) (iblk m c 2 t) (iblk m c 3 t) (iblk m c 4 t) _ S _ n1 n2 y3)
      unfold ins
      isplitl [H0 H1 H2 H3 H4]
      · isplitl [H0]; · iexact H0
        isplitl [H1]; · iexact H1
        isplitl [H2]; · iexact H2
        isplitl [H3]; · iexact H3
        iexact H4
      isplitl [H5]; · iexact H5
      isplitl [HS]; · iexact HS
      iintro ⟨⟨H0, H1, H2, H3, H4⟩, H5, ⟨%S', %hS', HS⟩⟩
      isplitl [HS Hg]
      · isplitl [HS]
        · iexists S'; isplitr
          · ipureintro; exact good_new m (by omega) o4 hS'
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have y2 : k0_cond2 (grid0.coords t) = 1#1 := p2.mpr ⟨by omega, by omega⟩
      have n3 : ¬ k0_cond3 (grid0.coords t) = 1#1 := fun h => h5 (p3.mp h).2
      iintro ⟨⟨⟨%S, %hS, HS⟩, Hg⟩, Ho, ⟨%d0, H0⟩, ⟨%d1, H1⟩, ⟨%d2, H2⟩, ⟨%d3, H3⟩, ⟨%d4, H4⟩, ⟨%d5, H5⟩⟩
      rw [← hS (by omega) hN (k0_off2 (grid0.coords t)) (k0_off2_inb (grid0.coords t) y2) o2]
      iapply (run_proj c Set.univ (grid0.coords t) _ _ _ _ _ _ _ _ _ _ _ _ _ _ (iblk m c 0 t) (iblk m c 1 t) (iblk m c 2 t) (iblk m c 3 t) (iblk m c 4 t) _ S _ n1 y2 n3)
      unfold ins
      isplitl [H0 H1 H2 H3 H4]
      · isplitl [H0]; · iexact H0
        isplitl [H1]; · iexact H1
        isplitl [H2]; · iexact H2
        isplitl [H3]; · iexact H3
        iexact H4
      isplitl [H5]; · iexact H5
      isplitl [HS]; · iexact HS
      iintro ⟨⟨H0, H1, H2, H3, H4⟩, H5, HS⟩
      isplitl [HS Hg]
      · isplitl [HS]
        · iexists S; isplitr
          · ipureintro; exact hS.keep m (by omega)
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body table's row at a point is the body there. -/
theorem row (t : Fin cfg0.N) : defs₀ (F := F) .tc cfg0.body (cfg0.bodyArgs t (cfg0.slots t)) = bodyAt0 t := by
  unfold defs₀; rw [Defs.onTc_tc]

/-- The library's obligation on the body. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-- The launch gives the invariant before the first point. -/
theorem hin (c : Dev nD) : Pipeline.ΦA spec0 c ⊢ (dats m 0 c).Φ 0 := by
  rw [show (dats m 0 c).Φ 0 = Phi m c 0 from rfl, PhiA_eq]
  unfold Phi
  iintro ⟨⟨%S, HS⟩, Hg⟩
  isplitl [HS]
  · iexists S; isplitr
    · ipureintro; exact fun h => absurd h (by decide)
    iexact HS
  iexact Hg

/-- The invariant after the last point gives the launch's back. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨%S, %hS, HS⟩, Hg⟩
  isplitl [HS]
  · iexists S; iexact HS
  iexact Hg

set_option backward.isDefEq.respectTransparency.types false in
/-- The run: every array of the pipeline ends at what the proof data say, every other buffer as found, every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel2Ideal.Run
-- ==== Proof.In.lean ====
module
public import proofs.«01_k».proof.Defs
public import proofs.«01_k».proof.Proof.InRun
public import proofs.«01_k».proof.Proof.Gen.Kernel2
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt
@[expose] public section
set_option maxRecDepth 16384
noncomputable section
open Idealize.ShloMosaic Idealize.ShloMosaic.TcCoe Idealize.SL.Sem
open Idealize.ShloMosaic.Pipeline (Dat)
namespace Cert.In

/-- One entry of a normalised and modulated row. -/
def hent (x : Fin 2048 → EReal) (g sh sc : EReal) (k : Fin 2048) : EReal :=
  x k * Ideal.rsqrt (Ideal.div (∑ j, x j * x j) (Ideal.ofBits .f32 0x45000000#32) + Ideal.ofBits .f32 0x358637BD#32) * g * (1 + sc) + sh

section
open Cert.Reference2Ideal Cert.Reference2Ideal.Read
variable (x0 : FVec Ideal S8x2048x2048 .f32) (x1 : FVec Ideal S2048 .f32) (x2 x3 : FVec Ideal S8x1x2048 .f32)
  (x4 : FVec Ideal S2048x4608 .bf16)

/-- A row's squares, summed. -/
theorem sq_at (b : Fin 8) (t : Fin 2048) : (val_main_v1 (F := Ideal) x0 (ix2 b t) : EReal) = ∑ j : Fin 2048, x0 (ix3 b t j) * x0 (ix3 b t j) := by
  pointwise [val_main_v1, val_main_v0, val_main_cst]

/-- An entry of the plain normalised and modulated rows. -/
theorem ref_h (b : Fin 8) (t k : Fin 2048) : (val_main_v18 (F := Ideal) x0 x1 x2 x3 (ix3 b t k) : EReal) =
    hent (fun j => x0 (ix3 b t j)) (x1 (ix1 k)) (x2 (ix3 b 0 k)) (x3 (ix3 b 0 k)) k := by
  unfold hent
  rw [← sq_at x0 b t]
  unfold val_main_v18 val_main_v17 val_main_v16 val_main_v15 val_main_v14 val_main_v13 val_main_v12 val_main_v11 val_main_v10 val_main_v9 val_main_v8 val_main_v7 val_main_v6 val_main_v5 val_main_v4 val_main_v3 val_main_v2 val_main_cst_0 val_main_cst_1 val_main_cst_2
  generalize val_main_v1 (F := Ideal) x0 = y
  pointwise

/-- An entry of the plain result. -/
theorem ref_at (b : Fin 8) (t : Fin 2048) (n : Fin 4608) : (val_main_v20 (F := Ideal) x0 x1 x2 x3 x4 (ix3 b t n) : EReal) =
    ∑ k : Fin 2048, hent (fun j => x0 (ix3 b t j)) (x1 (ix1 k)) (x2 (ix3 b 0 k)) (x3 (ix3 b 0 k)) k * x4 (ix2 k n) := by
  simp only [← ref_h x0 x1 x2 x3 b t]
  unfold val_main_v20
  generalize val_main_v18 (F := Ideal) x0 x1 x2 x3 = y
  pointwise [val_main_v19]

end

section
open Cert.Kernel2Ideal Cert.Kernel2Ideal.Gen Cert.Kernel2Ideal.Run
variable (m : (ℓ : Loc nD τ sig) → Buf (Elt Ideal) ℓ) (c : Dev nD)

/-- An entry of a row block, normalised and modulated. -/
theorem rows_at (X : Vec Ideal S1x1024x2048 .f32) (G : Vec Ideal S1x2048 .f32) (H C : Vec Ideal S1x1x2048 .f32) (r : Fin 1024) (k : Fin 2048) :
    (rows (F := Ideal) X G H C (ix3 0 r k) : EReal) = hent (fun j => X (ix3 0 r j)) (G (ix2 0 k)) (H (ix3 0 0 k)) (C (ix3 0 0 k)) k := by
  unfold rows k0_pay1 k0_pay4 hent
  pointwise

/-- An entry of a block of the result. -/
theorem proj_at (h : FVec Ideal S1x1024x2048 .bf16) (W : Vec Ideal S2048x768 .bf16) (r : Fin 1024) (e : Fin 768) :
    (proj (F := Ideal) h W (ix3 0 r e) : EReal) = ∑ k : Fin 2048, h (ix3 0 r k) * W (ix2 k e) := by
  unfold proj
  rw [View.canon_cons_unit_lit inb_S1x1024x768_S1x1024x768_0_0_0 _ _ (by decide)]
  unfold k0_pay2
  pointwise

/-- Every window's block, by grid point: the batch, the half of the tokens and the block of columns. -/
theorem idx : ∀ t : Fin cfg0.N, (t.val % 6 = 5 → t.val < 96 →
      win0_0.index t = ![t.val / 12, t.val / 6 % 2, 0] ∧ win0_1.index t = ![0, 0] ∧
      win0_2.index t = ![t.val / 12, 0, 0] ∧ win0_3.index t = ![t.val / 12, 0, 0]) ∧
    win0_4.index t = ![0, t.val % 6] ∧
    (6 ≤ t.val → win0_5.index t = ![(t.val / 6 - 1) / 2, (t.val / 6 - 1) % 2, t.val % 6]) ∧
    (win0_5.flush t = true → 6 ≤ t.val) :=
  (by decide +kernel : ∀ t : Fin grid0.N, _)

/-- The rows the call starts from. -/
abbrev B0 : FVec Ideal S8x2048x2048 .f32 := m (c, Proc.tc.devRef main_arg0)
/-- The gains. -/
abbrev B1 : FVec Ideal S2048 .f32 := m (c, Proc.tc.devRef main_arg1)
/-- The shifts. -/
abbrev B2 : FVec Ideal S8x1x2048 .f32 := m (c, Proc.tc.devRef main_arg2)
/-- The scales. -/
abbrev B3 : FVec Ideal S8x1x2048 .f32 := m (c, Proc.tc.devRef main_arg3)
/-- The weight. -/
abbrev B4 : FVec Ideal S2048x4608 .bf16 := m (c, Proc.tc.devRef main_arg4)

/-- The gains, as one row. -/
theorem V0 (k : Fin 2048) : (V m c main_v0 (ix2 0 k) : EReal) = B1 m c (ix1 k) := by
  unfold V
  after_reads_at

/-- The blocks the normalising point of a row block reads. -/
theorem blks (t : Fin cfg0.N) (h5 : t.val % 6 = 5) (h96 : t.val < 96) (r : Fin 1024) (k : Fin 2048) :
    (iblk m c 0 t (ix3 0 r k) : EReal) = B0 m c (ix3 ⟨t.val / 12, by omega⟩ ⟨t.val / 6 % 2 * 1024 + r.val, by omega⟩ k) ∧
    (iblk m c 1 t (ix2 0 k) : EReal) = V m c main_v0 (ix2 0 k) ∧
    (iblk m c 2 t (ix3 0 0 k) : EReal) = B2 m c (ix3 ⟨t.val / 12, by omega⟩ 0 k) ∧
    (iblk m c 3 t (ix3 0 0 k) : EReal) = B3 m c (ix3 ⟨t.val / 12, by omega⟩ 0 k) := by
  obtain ⟨i0, i1, i2, i3⟩ := (idx t).1 h5 h96
  refine ⟨?_, ?_, ?_, ?_⟩
  · blk_ext [iblk, V, i0]
  · blk_ext [iblk, i1]
  · blk_ext [iblk, V, i2]
  · blk_ext [iblk, V, i3]

/-- A normalised row block, from the arrays. -/
theorem hrow_at (q : ℕ) (hq : q < 16) (r : Fin 1024) (k : Fin 2048) : (hrow m c q (ix3 0 r k) : EReal) =
    hent (fun j => B0 m c (ix3 ⟨q / 2, by omega⟩ ⟨q % 2 * 1024 + r.val, by omega⟩ j)) (B1 m c (ix1 k)) (B2 m c (ix3 ⟨q / 2, by omega⟩ 0 k))
      (B3 m c (ix3 ⟨q / 2, by omega⟩ 0 k)) k := by
  unfold hrow
  have hv : (pt q).val = 6 * q + 5 := by show (6 * q + 5) % 102 = _; omega
  have e1 : (pt q).val / 12 = q / 2 := by omega
  have e2 : (pt q).val / 6 = q := by omega
  have hb := blks m c (pt q) (by omega) (by omega) r
  rw [rows_at]
  simp only [fun j => (hb j).1, (hb k).2.1, (hb k).2.2.1, (hb k).2.2.2, e1, e2]
  rw [V0 m c k]

/-- The kernel's result is the plain code's. -/
theorem final : (dats m 0 c).arrAt 5 cfg0.N =
    Cert.Reference2Ideal.Read.val_main_v20 (F := Ideal) (B0 m c) (B1 m c) (B2 m c) (B3 m c) (B4 m c) := by
  refine (dats m 0 c).arrAt_eq_of_covers 5 _ (by decide +kernel) fun t hf y => ?_
  blk_simp
  rw [after5]
  have h6 : 6 ≤ t.val := (idx t).2.2.2 hf
  have hN := lt102 t
  have i5 := (idx t).2.2.1 h6
  have i4 := (idx t).2.1
  have hi : (((cfg0.win 5).blk t).view.emb y : S8x2048x4608.Idx) = ix3 ⟨(t.val / 6 - 1) / 2, by omega⟩
      ⟨(t.val / 6 - 1) % 2 * 1024 + (y 1).val, by have : (y 1).val < 1024 := (y 1).isLt; omega⟩ ⟨t.val % 6 * 768 + (y 2).val, by have : (y 2).val < 768 := (y 2).isLt; omega⟩ := by
    blk_ext [i5]
  refine Eq.trans ?_ (congrArg (Cert.Reference2Ideal.Read.val_main_v20 (F := Ideal) (B0 m c) (B1 m c) (B2 m c) (B3 m c) (B4 m c)) hi).symm
  rw [ref_at]
  have hy : (y : S1x1024x768.Idx) = ix3 0 (y 1) (y 2) := by
    idx_vars y
    exact congrArg (fun i => ix3 i y1 y2) (Subsingleton.elim y0 0)
  refine (congrArg (proj (F := Ideal) _ _) hy).trans ((proj_at _ _ _ _).trans ?_)
  refine Finset.sum_congr rfl fun k _ => ?_
  refine congrArg₂ (· * ·) (hrow_at m c (t.val / 6 - 1) (by omega) (y 1) k) ?_
  blk_ext [iblk, V, i4]

end

/-- The kernel and its ideal form have one body. -/
theorem body_eq {F : FTy → Type} [FloatOps F] : Cert.Kernel2.defs₀ (F := F) = Cert.Kernel2Ideal.defs₀ (F := F) :=
  congrArg Defs.onTc (funext fun l => funext fun x => by
    match l, x with
    | 0, (t, s) => rfl
    | ⟨n + 1, h⟩, _ => exact absurd h (Nat.not_lt.2 (Nat.le_add_left _ _)))
/-- So they are one program. -/
theorem defs_eq {F : FTy → Type} [FloatOps F] : Cert.Kernel2.defs (F := F) = Cert.Kernel2Ideal.defs (F := F) :=
  congrArg (Pipeline.defs Cert.Kernel2Ideal.pcfgs) body_eq
/-- The kernel runs and leaves its arguments. -/
theorem frame_p : Cert.quiescent_Kernel2 (hKernel2 := Cert.Kernel2.Gen.facts) := fun m ρ _ => by
  rw [defs_eq]
  exact Cert.Kernel2Ideal.Run.frame (F := Bits) m ρ
/-- So does its ideal form. -/
theorem frame_pi : Cert.quiescent_Kernel2Ideal (hKernel2Ideal := Cert.Kernel2Ideal.Gen.facts) := fun m ρ _ => Cert.Kernel2Ideal.Run.frame m ρ
/-- The plain code runs and leaves its arguments. -/
theorem frame_r : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel and the plain modulated projection end with equal results. -/
theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => Cert.Reference2Ideal.Read.val_main_v20 (F := Ideal) (B0 m c) (B1 m c) (B2 m c) (B3 m c) (B4 m c), ?_, ?_⟩
  · exact (θ_run Cert.Kernel2Ideal.defs _ _).mono (fun r h c => ⟨((h.1.1 c).1 5).trans (final m c), h.2.1 c⟩)
      (θ_run_and (Cert.Kernel2Ideal.Run.run_main (F := Ideal) m ρ) (Cert.Kernel2Ideal.Run.frame (F := Ideal) m ρ))
  · refine (θ_run Cert.Reference2Ideal.defs _ _).mono (fun r h c => ⟨(h c).1.trans ?_, (h c).2⟩) (Cert.Reference2Ideal.Value.run (F := Ideal) m' ρ')
    refine (Cert.Reference2Ideal.Read.val_main_v20_eq (F := Ideal) _ _ _ _ _).trans ?_
    show Cert.Reference2Ideal.Read.val_main_v20 (F := Ideal) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4)) = _
    rw [(hagree c).1, (hagree c).2.1, (hagree c).2.2.1, (hagree c).2.2.2.1, (hagree c).2.2.2.2]

end Cert.In
-- ==== Proof.QRun.lean ====
module
public import proofs.«01_k».proof.Proof.Gen.Kernel4Ideal.Frame
public import proofs.«01_k».proof.Proof.Gen.Kernel4Ideal.Skeleton
public import Idealize.ShloMosaic.Lib.Claim
@[expose] public section
set_option maxRecDepth 16384
noncomputable section
namespace Cert.Kernel4Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]
local notation "𝕄" => MT nD τ sig Unit (Elt F) ℕ (UR sig nD τ) ℕ

/-- A row block, read whole. -/
abbrev rX : Rect S1x1024x2048 := Rect.unit (s := S1x1024x2048) ![0, 0, 0] S1x1024x2048.size inb_S1x1024x2048_S1x1024x2048_0_0_0
/-- The gains, read whole. -/
abbrev rG : Rect S1x2048 := Rect.unit (s := S1x2048) ![0, 0] S1x2048.size inb_S1x2048_S1x2048_0_0
/-- A shift or a scale, read whole. -/
abbrev rM : Rect S1x1x2048 := Rect.unit (s := S1x1x2048) ![0, 0, 0] S1x1x2048.size inb_S1x1x2048_S1x1x2048_0_0_0
/-- A block of the weight's columns, read whole. -/
abbrev rW : Rect S2048x512 := Rect.unit (s := S2048x512) ![0, 0] S2048x512.size inb_S2048x512_S2048x512_0_0
/-- A block of the result, written whole. -/
abbrev rO : Rect S1x1024x512 := Rect.unit (s := S1x1024x512) ![0, 0, 0] S1x1024x512.size inb_S1x1024x512_S1x1024x512_0_0_0

/-- A block of the turned rows, written whole. -/
abbrev rT : Rect S1x2048x1024 := Rect.unit (s := S1x2048x1024) ![0, 0, 0] S1x2048x1024.size inb_S1x2048x1024_S1x2048x1024_0_0_0

/-- The normalised and modulated rows of a block. -/
def rows (x0 : Vec F S1x1024x2048 .f32) (x1 : Vec F S1x2048 .f32) (x2 x3 : Vec F S1x1x2048 .f32) : FVec F S1x1024x2048 .bf16 :=
  k0_pay1 (k0_pay8 (View.ld x0 rX) (View.ld x1 rG) (View.ld x3 rM) (View.ld x2 rM))

/-- The same rows, turned. -/
def turned (x0 : Vec F S1x1024x2048 .f32) (x1 : Vec F S1x2048 .f32) (x2 x3 : Vec F S1x1x2048 .f32) : Vec F S1x2048x1024 .bf16 :=
  View.canon [⟨rT, k0_pay2 (k0_pay7 (View.ld x0 rX) (View.ld x1 rG) (View.ld x3 rM) (View.ld x2 rM))⟩]

/-- The projection of normalised rows by a block of columns. -/
def proj (h : FVec F S1x1024x2048 .bf16) (x4 : Vec F S2048x512 .bf16) : Vec F S1x1024x512 .f32 :=
  View.canon [⟨rO, k0_pay3 h (View.ld x4 rW)⟩]

/-- The result's store covers its block. -/
theorem cover_proj (p0 : Vec F S1x1024x512 .f32) (y : S1x1024x512.Idx) :
    ∃ pc ∈ ([⟨rO, p0⟩] : List (View.Piece (Elt F) S1x1024x512 .f32)), y ∈ pc.1.set :=
  View.cover_of_tiled [⟨rO, p0⟩] S1x1024x512.size (by rfl) y

/-- The turned rows' store covers their block. -/
theorem cover_turned (p0 : Vec F S1x2048x1024 .bf16) (y : S1x2048x1024.Idx) :
    ∃ pc ∈ ([⟨rT, p0⟩] : List (View.Piece (Elt F) S1x2048x1024 .bf16)), y ∈ pc.1.set :=
  View.cover_of_tiled [⟨rT, p0⟩] S1x2048x1024.size (by rfl) y

/-- Rows normalised beside a projection are the same rows. -/
theorem pay5_eq (x : Vec F S1x1024x2048 .f32) (g : Vec F S1x2048 .f32) (a b : Vec F S1x1x2048 .f32) :
    k0_pay5 (k0_pay10 x g) a b = k0_pay1 (k0_pay8 x g a b) := rfl

/-- And so are the turned ones. -/
theorem pay6_eq (x : Vec F S1x1024x2048 .f32) (g : Vec F S1x2048 .f32) (a b : Vec F S1x1x2048 .f32) :
    k0_pay6 (k0_pay10 x g) a b = k0_pay2 (k0_pay7 x g a b) := rfl

/-- A slot written whole reads what was written. -/
theorem slot_read (v : View sig .tc .vmem S2x1024x2048 .bf16) (f : v.ty.Contents (Elt F)) (off : Fin 3 → ℕ)
    (inb : ∀ a, off a + S1x1024x2048.size a ≤ S2x1024x2048.size a) (w : Vec F S1x1024x2048 .bf16) (x : S1x1024x2048.Idx) :
    v.read (Elt F) (v.writes (Elt F) f [⟨Rect.unit (s := S2x1024x2048) off S1x1024x2048.size inb, w⟩])
      ((Rect.unit (s := S2x1024x2048) off S1x1024x2048.size inb).emb x) = w x :=
  View.read_writes_cons_emb v f (Rect.unit (s := S2x1024x2048) off S1x1024x2048.size inb) w [] x

section
variable (c : Dev nD) (E : Set ℕ) (i : grid0.Coords) (arg2 : Memref sig .tc .vmem S1x1024x2048 .f32) (harg2 : arg2.IsWhole)
  (arg3 : Memref sig .tc .vmem S1x2048 .f32) (harg3 : arg3.IsWhole) (arg4 : Memref sig .tc .vmem S1x1x2048 .f32) (harg4 : arg4.IsWhole)
  (arg5 : Memref sig .tc .vmem S1x1x2048 .f32) (harg5 : arg5.IsWhole) (arg6 : Memref sig .tc .vmem S2048x512 .bf16) (harg6 : arg6.IsWhole)
  (arg7 : Memref sig .tc .vmem S1x1024x512 .f32) (harg7 : arg7.IsWhole) (arg8 : Memref sig .tc .vmem S1x2048x1024 .bf16) (harg8 : arg8.IsWhole)
  (arg9 : Memref sig .tc .vmem S2x1024x2048 .bf16) (harg9 : arg9.IsWhole)
  (x0 : Vec F S1x1024x2048 .f32) (x1 : Vec F S1x2048 .f32) (x2 x3 : Vec F S1x1x2048 .f32) (x4 : Vec F S2048x512 .bf16)
  (o : Vec F S1x1024x512 .f32) (p : Vec F S1x2048x1024 .bf16) (S : Vec F S2x1024x2048 .bf16)

/-- What the body holds of its inputs. -/
abbrev ins : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4)

/-- A point that does nothing. -/
theorem run_none (K : PUnit → sProp 𝕄) (h1 : ¬ k0_cond1 i = 1#1) (h2 : ¬ k0_cond2 i = 1#1) (h3 : ¬ k0_cond3 i = 1#1) :
    K PUnit.unit ⊢ wp frame (wpE (defs₀ (F := F)) Variants.none c none) E
      (cc0_normmod_proj i arg2 harg2 arg3 harg3 arg4 harg4 arg5 harg5 arg6 harg6 arg7 harg7 arg8 harg8 arg9 harg9) K := by
  simp only [cc0_normmod_proj_eq_skeleton]; unfold cc0_normmod_proj_skel
  iintro Hk
  sl_exec (disch := first | sl_exact h1 | sl_exact h2 | sl_exact h3)
  sl_step
  iexact Hk

set_option maxHeartbeats 1000000 in
/-- The last point of the first row block: its rows are normalised into their slot. -/
theorem run_first (K : PUnit → sProp 𝕄) (h1 : k0_cond1 i = 1#1) (h2 : ¬ k0_cond2 i = 1#1) (h3 : ¬ k0_cond3 i = 1#1) :
    iprop(ins c arg2 arg3 arg4 arg5 arg6 x0 x1 x2 x3 x4 ∗ owns (c : Thread nD τ) arg8 fullShare p ∗ owns (c : Thread nD τ) arg9 fullShare S
      ∗ (iprop(ins c arg2 arg3 arg4 arg5 arg6 x0 x1 x2 x3 x4 ∗ owns (c : Thread nD τ) arg8 fullShare (turned x0 x1 x2 x3) ∗ (∃ S', ⌜∀ x, S' ((Rect.unit (s := S2x1024x2048) (k0_off1 i) S1x1024x2048.size (k0_off1_inb i h1)).emb x) = rows x0 x1 x2 x3 x⌝
          ∗ owns (c : Thread nD τ) arg9 fullShare S')) -∗ K PUnit.unit))
    ⊢ wp frame (wpE (defs₀ (F := F)) Variants.none c none) E
      (cc0_normmod_proj i arg2 harg2 arg3 harg3 arg4 harg4 arg5 harg5 arg6 harg6 arg7 harg7 arg8 harg8 arg9 harg9) K := by
  simp only [cc0_normmod_proj_eq_skeleton]; unfold cc0_normmod_proj_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩⟩, ⟨%f7, %hf7, H7⟩, ⟨%f6, %hf6, H6⟩, Hk⟩
  subst hf0 hf1 hf2 hf3 hf4 hf7 hf6
  sl_exec (disch := first | sl_exact h1 | sl_exact h2 | sl_exact h3)
  sl_step
  iapply Hk
  isplitl [H0 H1 H2 H3 H4]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  isplitl [H7]
  · iexists _; isplitr
    swap; · iexact H7
    ipureintro
    refine (View.read_writes_eq_canon _ _ _ (cover_turned _)).trans ?_
    unfold turned
    unfold run_first.sl.r
    rfl
  iexists _; isplitr
  swap
  · iexists _; isplitr
    swap; · iexact H6
    ipureintro; rfl
  ipureintro
  intro x
  refine (slot_read arg9.view f6 (k0_off1 i) (k0_off1_inb i h1) _ x).trans (congrFun ?_ x)
  unfold rows
  refine congrArg k0_pay1 ?_
  unfold run_first.sl.r_1
  rfl

set_option maxHeartbeats 1000000 in
/-- A point that projects the rows of the slot before. -/
theorem run_proj (K : PUnit → sProp 𝕄) (h1 : ¬ k0_cond1 i = 1#1) (h2 : k0_cond2 i = 1#1) (h3 : ¬ k0_cond3 i = 1#1) :
    iprop(ins c arg2 arg3 arg4 arg5 arg6 x0 x1 x2 x3 x4 ∗ owns (c : Thread nD τ) arg7 fullShare o ∗ owns (c : Thread nD τ) arg9 fullShare S
      ∗ (iprop(ins c arg2 arg3 arg4 arg5 arg6 x0 x1 x2 x3 x4
          ∗ owns (c : Thread nD τ) arg7 fullShare (proj (View.ld S (Rect.unit (s := S2x1024x2048) (k0_off2 i) S1x1024x2048.size (k0_off2_inb i h2))) x4)
          ∗ owns (c : Thread nD τ) arg9 fullShare S) -∗ K PUnit.unit))
    ⊢ wp frame (wpE (defs₀ (F := F)) Variants.none c none) E
      (cc0_normmod_proj i arg2 harg2 arg3 harg3 arg4 harg4 arg5 harg5 arg6 harg6 arg7 harg7 arg8 harg8 arg9 harg9) K := by
  simp only [cc0_normmod_proj_eq_skeleton]; unfold cc0_normmod_proj_skel
  unfold ins owns
  iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%f6, %hf6, H6⟩, Hk⟩
  subst hf0 hf1 hf2 hf3 hf4 hf5 hf6
  sl_exec (disch := first | sl_exact h1 | sl_exact h2 | sl_exact h3)
  sl_step
  iapply Hk
  isplitl [H0 H1 H2 H3 H4]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  isplitl [H5]
  · iexists _; isplitr
    swap; · iexact H5
    ipureintro
    exact View.read_writes_eq_canon _ _ _ (cover_proj _)
  iexists f6; isplitr; · ipureintro; rfl
  iexact H6

set_option maxHeartbeats 1000000 in
/-- The last point of a later row block: the rows before are projected, and this block's rows are normalised into their slot. -/
theorem run_both (K : PUnit → sProp 𝕄) (h1 : ¬ k0_cond1 i = 1#1) (h2 : ¬ k0_cond2 i = 1#1) (h3 : k0_cond3 i = 1#1) :
    iprop(ins c arg2 arg3 arg4 arg5 arg6 x0 x1 x2 x3 x4 ∗ owns (c : Thread nD τ) arg7 fullShare o ∗ owns (c : Thread nD τ) arg8 fullShare p ∗ owns (c : Thread nD τ) arg9 fullShare S
      ∗ (iprop(ins c arg2 arg3 arg4 arg5 arg6 x0 x1 x2 x3 x4
          ∗ owns (c : Thread nD τ) arg7 fullShare (proj (View.ld S (Rect.unit (s := S2x1024x2048) (k0_off3 i) S1x1024x2048.size (k0_off3_inb i h3))) x4)
          ∗ owns (c : Thread nD τ) arg8 fullShare (turned x0 x1 x2 x3) ∗ (∃ S', ⌜∀ x, S' ((Rect.unit (s := S2x1024x2048) (k0_off4 i) S1x1024x2048.size (k0_off4_inb i h3)).emb x) = rows x0 x1 x2 x3 x⌝
            ∗ owns (c : Thread nD τ) arg9 fullShare S')) -∗ K PUnit.unit))
    ⊢ wp frame (wpE (defs₀ (F := F)) Variants.none c none) E
      (cc0_normmod_proj i arg2 harg2 arg3 harg3 arg4 harg4 arg5 harg5 arg6 harg6 arg7 harg7 arg8 harg8 arg9 harg9) K := by
  simp only [cc0_normmod_proj_eq_skeleton]; unfold cc0_normmod_proj_skel
  simp only [k0_part2_eq_skeleton]
  unfold ins owns
  iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%f7, %hf7, H7⟩, ⟨%f6, %hf6, H6⟩, Hk⟩
  subst hf0 hf1 hf2 hf3 hf4 hf5 hf7 hf6
  sl_exec (disch := first | sl_exact h1 | sl_exact h2 | sl_exact h3)
  sl_step
  iapply Hk
  isplitl [H0 H1 H2 H3 H4]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  isplitl [H5]
  · iexists _; isplitr
    swap; · iexact H5
    ipureintro
    exact View.read_writes_eq_canon _ _ _ (cover_proj _)
  isplitl [H7]
  · iexists _; isplitr
    swap; · iexact H7
    ipureintro
    refine (View.read_writes_eq_canon _ _ _ (cover_turned _)).trans ?_
    unfold turned
    rw [← pay6_eq]
    unfold run_both.sl.r
    rfl
  iexists _; isplitr
  swap
  · iexists _; isplitr
    swap; · iexact H6
    ipureintro; rfl
  ipureintro
  intro x
  refine (slot_read arg9.view f6 (k0_off4 i) (k0_off4_inb i h3) _ x).trans (congrFun ?_ x)
  unfold rows
  rw [← pay5_eq]
  unfold run_both.sl.r
  rfl

end

/-- Which points do what, and which slot each reads and writes. -/
theorem pts : ∀ t : Fin cfg0.N, (k0_cond1 (grid0.coords t) = 1#1 ↔ t.val = 3) ∧
    (k0_cond2 (grid0.coords t) = 1#1 ↔ 4 ≤ t.val ∧ (t.val % 4 ≠ 3 ∨ t.val = 67)) ∧
    (k0_cond3 (grid0.coords t) = 1#1 ↔ 4 ≤ t.val ∧ t.val % 4 = 3 ∧ t.val ≠ 67) ∧
    k0_off1 (grid0.coords t) = ![t.val / 4 % 2, 0, 0] ∧ k0_off2 (grid0.coords t) = ![(t.val / 4 + 1) % 2, 0, 0] ∧
    k0_off3 (grid0.coords t) = ![(t.val / 4 + 1) % 2, 0, 0] ∧ k0_off4 (grid0.coords t) = ![t.val / 4 % 2, 0, 0] :=
  (by decide +kernel : ∀ t : Fin grid0.N, _)

/-- The result's window rests over the first row block, and is written at every point after. -/
theorem rests : ∀ t : Fin cfg0.N, (t.val < 4 → cfg0.idle 5 (cfg0.grid.coords t) = true ∧ (cfg0.win 5).flush t = false) ∧
    (4 ≤ t.val → cfg0.idle 5 (cfg0.grid.coords t) = false) :=
  (by decide +kernel : ∀ t : Fin grid0.N, (t.val < 4 → cfg0.idle 5 (grid0.coords t) = true ∧ win0_5.flush t = false) ∧
    (4 ≤ t.val → cfg0.idle 5 (grid0.coords t) = false))

/-- The turned rows' window is written at a row block's last point, rests elsewhere, and is written back where its block changes and at the end. -/
theorem rests' : ∀ t : Fin cfg0.N, (t.val % 4 = 3 → t.val ≠ 67 → cfg0.idle 6 (cfg0.grid.coords t) = false) ∧
    (t.val % 4 ≠ 3 → cfg0.idle 6 (cfg0.grid.coords t) = true ∧ (cfg0.win 6).flush t = false) ∧
    (t.val = 67 → cfg0.idle 6 (cfg0.grid.coords t) = true ∧ (cfg0.win 6).flush t = true) ∧
    (cfg0.win 6).fetch t = false ∧ (63 ≤ t.val → t.val ≠ 67 → (cfg0.win 6).flush t = false) :=
  (by decide +kernel : ∀ t : Fin grid0.N, (t.val % 4 = 3 → t.val ≠ 67 → cfg0.idle 6 (grid0.coords t) = false) ∧
    (t.val % 4 ≠ 3 → cfg0.idle 6 (grid0.coords t) = true ∧ win0_6.flush t = false) ∧
    (t.val = 67 → cfg0.idle 6 (grid0.coords t) = true ∧ win0_6.flush t = true) ∧
    win0_6.fetch t = false ∧ (63 ≤ t.val → t.val ≠ 67 → win0_6.flush t = false))

variable (m : (ℓ : Loc nD τ sig) → Buf (Elt F) ℓ) (ρ : Dev nD → PrngReg)

/-- The number of grid points. -/
theorem lt68 (t : Fin cfg0.N) : t.val < 68 := lt_of_lt_of_eq t.isLt N_0

/-- The point that normalises row block `r`. -/
def pt (r : ℕ) : Fin cfg0.N := ⟨(4 * r + 3) % 68, lt_of_lt_of_eq (Nat.mod_lt _ (by decide)) N_0.symm⟩

/-- A row block's last point normalises it. -/
theorem pt_eq (t : Fin cfg0.N) (h : t.val % 4 = 3) : pt (t.val / 4) = t :=
  Fin.ext (by have := lt68 t; show (4 * (t.val / 4) + 3) % 68 = t.val; omega)

/-- Row block `r`, normalised and modulated. -/
def hrow (c : Dev nD) (r : ℕ) : FVec F S1x1024x2048 .bf16 :=
  rows (iblk m c 0 (pt r)) (iblk m c 1 (pt r)) (iblk m c 2 (pt r)) (iblk m c 3 (pt r))

/-- Row block `r`, normalised, modulated and turned. -/
def hturn (c : Dev nD) (r : ℕ) : Vec F S1x2048x1024 .bf16 :=
  turned (iblk m c 0 (pt r)) (iblk m c 1 (pt r)) (iblk m c 2 (pt r)) (iblk m c 3 (pt r))

/-- At the point that normalises it. -/
theorem hturn_eq (c : Dev nD) (t : Fin cfg0.N) (h : t.val % 4 = 3) (hl : t.val ≠ 67) :
    hturn m c (min (t.val / 4) 15) = turned (iblk m c 0 t) (iblk m c 1 t) (iblk m c 2 t) (iblk m c 3 t) := by
  have := lt68 t
  unfold hturn
  rw [show min (t.val / 4) 15 = t.val / 4 by omega, pt_eq t h]

/-- Before point `n` of a row block but the first, the other slot holds the normalised rows of the block before. -/
def Good (c : Dev nD) (n : ℕ) (S : Vec F S2x1024x2048 .bf16) : Prop :=
  4 ≤ n → n < 68 → ∀ (off : Fin 3 → ℕ) (inb : ∀ a, off a + S1x1024x2048.size a ≤ S2x1024x2048.size a), off = ![(n / 4 + 1) % 2, 0, 0] →
    View.ld S (Rect.unit (s := S2x1024x2048) off S1x1024x2048.size inb) = hrow m c (n / 4 - 1)

/-- A point that leaves the slots keeps what they hold. -/
theorem Good.keep {c : Dev nD} {t : Fin cfg0.N} {S : Vec F S2x1024x2048 .bf16} (h : Good m c t.val S) (ht : t.val % 4 ≠ 3 ∨ t.val = 67) :
    Good m c (t.val + 1) S := by
  intro h6 h68 off inb ho
  have e : (t.val + 1) / 4 = t.val / 4 := by omega
  rw [e] at ho ⊢
  exact h (by omega) (by omega) off inb ho

/-- The point that normalises a row block leaves it in the slot the next row block reads. -/
theorem good_new {c : Dev nD} {t : Fin cfg0.N} {S : Vec F S2x1024x2048 .bf16} {off : Fin 3 → ℕ}
    {inb : ∀ a, off a + S1x1024x2048.size a ≤ S2x1024x2048.size a} (ht : t.val % 4 = 3) (ho : off = ![t.val / 4 % 2, 0, 0])
    (h : ∀ x, S ((Rect.unit (s := S2x1024x2048) off S1x1024x2048.size inb).emb x) = rows (iblk m c 0 t) (iblk m c 1 t) (iblk m c 2 t) (iblk m c 3 t) x) :
    Good m c (t.val + 1) S := by
  intro h6 h68 off' inb' ho'
  have e : (t.val + 1) / 4 = t.val / 4 + 1 := by omega
  have e2 : off' = off := by rw [ho', ho, e]; congr 1; omega
  subst e2
  unfold hrow
  rw [e, Nat.add_sub_cancel, pt_eq t ht]
  exact funext h

/-- The scratch, as a whole operand. -/
abbrev scM : Memref sig .tc .vmem S2x1024x2048 .bf16 := Memref.whole cc0_scratch0

/-- The invariant before point `n`: the scratch with the slots as said, and the generator's register. -/
def Phi (c : Dev nD) (n : ℕ) : sProp 𝕄 :=
  iprop((∃ S, ⌜Good m c n S⌝ ∗ owns (c : Thread nD τ) scM fullShare S) ∗ (∃ r, prngReg c r))

/-- What the launch hands over, with the scratch as an operand. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The proof data: the inputs' blocks stay, the result's block is the projection of the row block before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => proj (hrow m c (t.val / 4 - 1)) (iblk m c 4 t)
    | ⟨6, _⟩ => hturn m c (min (t.val / 4) 15)
  Φ t := Phi m c t.val
  q _ := fullShare
  owed _ := 0

/-- The arrays are as the region finds them. -/
theorem A_eq (c : Dev nD) (w : Fin cfg0.W) : (dats m 0 c).A w = V m c (Pipeline.arrRef spec0 w) := by dsimp only [dats]

/-- What the body leaves in each window. -/
theorem after0 (c : Dev nD) (t : Fin cfg0.N) : (dats m 0 c).after 0 t = iblk m c 0 t := by dsimp only [dats]
/-- The gains stay. -/
theorem after1 (c : Dev nD) (t : Fin cfg0.N) : (dats m 0 c).after 1 t = iblk m c 1 t := by dsimp only [dats]
/-- The shifts stay. -/
theorem after2 (c : Dev nD) (t : Fin cfg0.N) : (dats m 0 c).after 2 t = iblk m c 2 t := by dsimp only [dats]
/-- The scales stay. -/
theorem after3 (c : Dev nD) (t : Fin cfg0.N) : (dats m 0 c).after 3 t = iblk m c 3 t := by dsimp only [dats]
/-- The weight stays. -/
theorem after4 (c : Dev nD) (t : Fin cfg0.N) : (dats m 0 c).after 4 t = iblk m c 4 t := by dsimp only [dats]
/-- The result is the projection. -/
theorem after5 (c : Dev nD) (t : Fin cfg0.N) : (dats m 0 c).after 5 t = proj (hrow m c (t.val / 4 - 1)) (iblk m c 4 t) := by dsimp only [dats]

/-- The other result is the rows, turned. -/
theorem after6 (c : Dev nD) (t : Fin cfg0.N) : (dats m 0 c).after 6 t = hturn m c (min (t.val / 4) 15) := by dsimp only [dats]

/-- The rows' buffer holds their block. -/
theorem before0 (c : Dev nD) (t : Fin cfg0.N) (d) : (dats m 0 c).before 0 t d = iblk m c 0 t := before0_0_of m (dats m 0 c) (A_eq m c 0) (after0 m c) t d
/-- The gains' buffer holds their block. -/
theorem before1 (c : Dev nD) (t : Fin cfg0.N) (d) : (dats m 0 c).before 1 t d = iblk m c 1 t := before0_1_of m (dats m 0 c) (A_eq m c 1) (after1 m c) t d
/-- The shifts' buffer holds their block. -/
theorem before2 (c : Dev nD) (t : Fin cfg0.N) (d) : (dats m 0 c).before 2 t d = iblk m c 2 t := before0_2_of m (dats m 0 c) (A_eq m c 2) (after2 m c) t d
/-- The scales' buffer holds their block. -/
theorem before3 (c : Dev nD) (t : Fin cfg0.N) (d) : (dats m 0 c).before 3 t d = iblk m c 3 t := before0_3_of m (dats m 0 c) (A_eq m c 3) (after3 m c) t d
/-- The weight's buffer holds its block. -/
theorem before4 (c : Dev nD) (t : Fin cfg0.N) (d) : (dats m 0 c).before 4 t d = iblk m c 4 t := before0_4_of m (dats m 0 c) (A_eq m c 4) (after4 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t ∗ (dats m 0 c).leavesExact 6 t)

/-- At a resting point the result's buffer is left as found. -/
theorem leaves_rest (c : Dev nD) (t : Fin cfg0.N) (h : t.val < 4) : (dats m 0 c).leavesExact 5 t =
    iprop(∃ d, owns (c : Thread nD τ) (st0_5 t) fullShare ((dats m 0 c).before 5 t d)) :=
  (dats m 0 c).leavesExact_idle 5 t ((rests t).1 h).1 ((rests t).1 h).2

/-- At a later point the result's buffer is left at the projection. -/
theorem leaves_live (c : Dev nD) (t : Fin cfg0.N) (h : 4 ≤ t.val) : (dats m 0 c).leavesExact 5 t =
    owns (c : Thread nD τ) (st0_5 t) fullShare (proj (hrow m c (t.val / 4 - 1)) (iblk m c 4 t)) := by
  unfold Dat.leavesExact
  rw [(rests t).2 h]
  exact congrArg (fun x => owns (c : Thread nD τ) (st0_5 t) fullShare x) (after5 m c t)

/-- After the last turned block, its buffer keeps it to the end. -/
theorem kept6 (c : Dev nD) (k : ℕ) : ∀ (t : Fin cfg0.N) (d), t.val = 64 + k → (dats m 0 c).before 6 t d = hturn m c 15 := by
  induction k with
  | zero =>
    intro t d ht
    have hp : (⟨t.val - 1, Nat.lt_of_le_of_lt (Nat.sub_le _ _) t.isLt⟩ : Fin cfg0.N).val = 63 := by show t.val - 1 = 63; omega
    rw [(dats m 0 c).before_of_pos 6 t (by omega) (rests' t).2.2.2.1, (rests' _).2.2.2.2 (by omega) (by omega), if_neg Bool.false_ne_true]
    unfold Dat.left
    rw [(rests' _).1 (by omega) (by omega)]
    unfold Dat.kept
    rw [Pipeline.fill_of_clip_none 6 _ (fun _ => rfl) d ((dats m 0 c).after 6 _), Pipeline.Window.fill_cut]
    rw [after6, hp]
    rfl
  | succ k ih =>
    intro t d ht
    have := lt68 t
    have hp : (⟨t.val - 1, Nat.lt_of_le_of_lt (Nat.sub_le _ _) t.isLt⟩ : Fin cfg0.N).val = 64 + k := by show t.val - 1 = 64 + k; omega
    rw [(dats m 0 c).before_of_pos 6 t (by omega) (rests' t).2.2.2.1, (rests' _).2.2.2.2 (by omega) (by omega), if_neg Bool.false_ne_true]
    unfold Dat.left
    rw [((rests' _).2.1 (by omega)).1]
    exact ih _ d hp

/-- At a resting point but the last the turned rows' buffer is left as found. -/
theorem turn_rest (c : Dev nD) (t : Fin cfg0.N) (h : t.val % 4 ≠ 3) : (dats m 0 c).leavesExact 6 t =
    iprop(∃ d, owns (c : Thread nD τ) (st0_6 t) fullShare ((dats m 0 c).before 6 t d)) :=
  (dats m 0 c).leavesExact_idle 6 t ((rests' t).2.1 h).1 ((rests' t).2.1 h).2

/-- At a row block's last point it is left at the rows normalised there, turned. -/
theorem turn_live (c : Dev nD) (t : Fin cfg0.N) (h : t.val % 4 = 3) (hl : t.val ≠ 67) : (dats m 0 c).leavesExact 6 t =
    owns (c : Thread nD τ) (st0_6 t) fullShare (turned (iblk m c 0 t) (iblk m c 1 t) (iblk m c 2 t) (iblk m c 3 t)) := by
  unfold Dat.leavesExact
  rw [(rests' t).1 h hl]
  exact congrArg (fun x => owns (c : Thread nD τ) (st0_6 t) fullShare x) ((after6 m c t).trans (hturn_eq m c t h hl))

/-- At the last point it is left at the last block, which it holds. -/
theorem turn_last (c : Dev nD) (t : Fin cfg0.N) (hl : t.val = 67) :
    iprop(∃ d, owns (c : Thread nD τ) (st0_6 t) fullShare ((dats m 0 c).before 6 t d)) ⊢ (dats m 0 c).leavesExact 6 t := by
  have e : (dats m 0 c).leavesExact 6 t = owns (c : Thread nD τ) (st0_6 t) fullShare (hturn m c 15) := by
    unfold Dat.leavesExact
    rw [((rests' t).2.2.1 hl).1, ((rests' t).2.2.1 hl).2]
    exact congrArg (fun x => owns (c : Thread nD τ) (st0_6 t) fullShare x) ((after6 m c t).trans (by rw [hl]; rfl))
  rw [e]
  simp only [kept6 m c 3 t _ hl]
  iintro ⟨%d, H⟩
  iexact H

/-- A resting point hands the turned rows' buffer on. -/
theorem turn_idle (c : Dev nD) (t : Fin cfg0.N) (h : t.val % 4 ≠ 3 ∨ t.val = 67) :
    iprop(∃ d, owns (c : Thread nD τ) (st0_6 t) fullShare ((dats m 0 c).before 6 t d)) ⊢ (dats m 0 c).leavesExact 6 t := by
  by_cases hl : t.val = 67
  · exact turn_last m c t hl
  · rw [turn_rest m c t (by omega)]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl, after0, after1, after2, after3, after4,
    show (dats m 0 c).Φ t.succ = Phi m c (t.val + 1) from rfl, show (dats m 0 c).Φ t.castSucc = Phi m c t.val from rfl]
  unfold Phi
  obtain ⟨p1, p2, p3, o1, o2, o3, o4⟩ := pts t
  have hN := lt68 t
  by_cases h6 : t.val < 4
  · rw [leaves_rest m c t h6]
    have n2 : ¬ k0_cond2 (grid0.coords t) = 1#1 := fun h => by have := p2.mp h; omega
    have n3 : ¬ k0_cond3 (grid0.coords t) = 1#1 := fun h => by have := p3.mp h; omega
    by_cases h5 : t.val = 3
    · iintro ⟨⟨⟨%S, %hS, HS⟩, Hg⟩, Ho, ⟨%d0, H0⟩, ⟨%d1, H1⟩, ⟨%d2, H2⟩, ⟨%d3, H3⟩, ⟨%d4, H4⟩, H5, ⟨%d6, H6⟩⟩
      rw [turn_live m c t (by omega) (by omega)]
      iapply (run_first c Set.univ (grid0.coords t) _ _ _ _ _ _ _ _ _ _ _ _ _ _ _ _ (iblk m c 0 t) (iblk m c 1 t) (iblk m c 2 t) (iblk m c 3 t) (iblk m c 4 t) _ S _ (p1.mpr h5) n2 n3)
      unfold ins
      isplitl [H0 H1 H2 H3 H4]
      · isplitl [H0]; · iexact H0
        isplitl [H1]; · iexact H1
        isplitl [H2]; · iexact H2
        isplitl [H3]; · iexact H3
        iexact H4
      isplitl [H6]; · iexact H6
      isplitl [HS]; · iexact HS
      iintro ⟨⟨H0, H1, H2, H3, H4⟩, H6, ⟨%S', %hS', HS⟩⟩
      isplitl [HS Hg]
      · isplitl [HS]
        · iexists S'; isplitr
          · ipureintro; exact good_new m (by omega) o1 hS'
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have n1 : ¬ k0_cond1 (grid0.coords t) = 1#1 := fun h => h5 (p1.mp h)
      iintro ⟨⟨⟨%S, %hS, HS⟩, Hg⟩, Ho, ⟨%d0, H0⟩, ⟨%d1, H1⟩, ⟨%d2, H2⟩, ⟨%d3, H3⟩, ⟨%d4, H4⟩, H5, H6⟩
      iapply (run_none c Set.univ (grid0.coords t) _ _ _ _ _ _ _ _ _ _ _ _ _ _ _ _ _ n1 n2 n3)
      isplitl [HS Hg]
      · isplitl [HS]
        · iexists S; isplitr
          · ipureintro; exact hS.keep m (by omega)
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (turn_idle m c t (by omega)); iexact H6
  · rw [leaves_live m c t (by omega)]
    have n1 : ¬ k0_cond1 (grid0.coords t) = 1#1 := fun h => by have := p1.mp h; omega
    by_cases h5 : t.val % 4 = 3 ∧ t.val ≠ 67
    · have n2 : ¬ k0_cond2 (grid0.coords t) = 1#1 := fun h => by have := p2.mp h; omega
      have y3 : k0_cond3 (grid0.coords t) = 1#1 := p3.mpr ⟨by omega, h5⟩
      iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩⟩
      rw [turn_live m c t h5.1 h5.2]
      rw [← hS (by omega) hN (k0_off3 (grid0.coords t)) (k0_off3_inb (grid0.coords t) y3) o3]
      iapply (run_both c Set.univ (grid0.coords t) _ _ _ _ _ _ _ _ _ _ _ _ _ _ _ _ (iblk m c 0 t) (iblk m c 1 t) (iblk m c 2 t) (iblk m c 3 t) (iblk m c 4 t) _ _ S _ n1 n2 y3)
      unfold ins
      isplitl [H0 H1 H2 H3 H4]
      · isplitl [H0]; · iexact H0
        isplitl [H1]; · iexact H1
        isplitl [H2]; · iexact H2
        isplitl [H3]; · iexact H3
        iexact H4
      isplitl [H5]; · iexact H5
      isplitl [H6]; · iexact H6
      isplitl [HS]; · iexact HS
      iintro ⟨⟨H0, H1, H2, H3, H4⟩, H5, H6, ⟨%S', %hS', HS⟩⟩
      isplitl [HS Hg]
      · isplitl [HS]
        · iexists S'; isplitr
          · ipureintro; exact good_new m (by omega) o4 hS'
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have y2 : k0_cond2 (grid0.coords t) = 1#1 := p2.mpr ⟨by omega, by omega⟩
      have n3 : ¬ k0_cond3 (grid0.coords t) = 1#1 := fun h => h5 (p3.mp h).2
      iintro ⟨⟨⟨%S, %hS, HS⟩, Hg⟩, Ho, ⟨%d0, H0⟩, ⟨%d1, H1⟩, ⟨%d2, H2⟩, ⟨%d3, H3⟩, ⟨%d4, H4⟩, ⟨%d5, H5⟩, H6⟩
      rw [← hS (by omega) hN (k0_off2 (grid0.coords t)) (k0_off2_inb (grid0.coords t) y2) o2]
      iapply (run_proj c Set.univ (grid0.coords t) _ _ _ _ _ _ _ _ _ _ _ _ _ _ _ _ (iblk m c 0 t) (iblk m c 1 t) (iblk m c 2 t) (iblk m c 3 t) (iblk m c 4 t) _ S _ n1 y2 n3)
      unfold ins
      isplitl [H0 H1 H2 H3 H4]
      · isplitl [H0]; · iexact H0
        isplitl [H1]; · iexact H1
        isplitl [H2]; · iexact H2
        isplitl [H3]; · iexact H3
        iexact H4
      isplitl [H5]; · iexact H5
      isplitl [HS]; · iexact HS
      iintro ⟨⟨H0, H1, H2, H3, H4⟩, H5, HS⟩
      isplitl [HS Hg]
      · isplitl [HS]
        · iexists S; isplitr
          · ipureintro; exact hS.keep m (by omega)
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (turn_idle m c t (by omega)); iexact H6

/-- The body table's row at a point is the body there. -/
theorem row (t : Fin cfg0.N) : defs₀ (F := F) .tc cfg0.body (cfg0.bodyArgs t (cfg0.slots t)) = bodyAt0 t := by
  unfold defs₀; rw [Defs.onTc_tc]

/-- The library's obligation on the body. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-- The launch gives the invariant before the first point. -/
theorem hin (c : Dev nD) : Pipeline.ΦA spec0 c ⊢ (dats m 0 c).Φ 0 := by
  rw [show (dats m 0 c).Φ 0 = Phi m c 0 from rfl, PhiA_eq]
  unfold Phi
  iintro ⟨⟨%S, HS⟩, Hg⟩
  isplitl [HS]
  · iexists S; isplitr
    · ipureintro; exact fun h => absurd h (by decide)
    iexact HS
  iexact Hg

/-- The invariant after the last point gives the launch's back. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨%S, %hS, HS⟩, Hg⟩
  isplitl [HS]
  · iexists S; iexact HS
  iexact Hg

set_option backward.isDefEq.respectTransparency.types false in
/-- The run: every array of the pipeline ends at what the proof data say, every other buffer as found, every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel4Ideal.Run
-- ==== Proof.Query.lean ====
module
public import proofs.«01_k».proof.Defs
public import proofs.«01_k».proof.Proof.In
public import proofs.«01_k».proof.Proof.QRun
public import proofs.«01_k».proof.Proof.Gen.Kernel4
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt
@[expose] public section
set_option maxRecDepth 16384
noncomputable section
open Idealize.ShloMosaic Idealize.ShloMosaic.TcCoe Idealize.SL.Sem
open Idealize.ShloMosaic.Pipeline (Dat)
open Cert.In (hent)
namespace Cert.Query

section
open Cert.Reference4Ideal Cert.Reference4Ideal.Read
variable (x0 : FVec Ideal S8x2048x2048 .f32) (x1 : FVec Ideal S2048 .f32) (x2 x3 : FVec Ideal S8x1x2048 .f32)
  (x4 : FVec Ideal S2048x2048 .bf16)

/-- A row's squares, summed. -/
theorem sq_at (b : Fin 8) (t : Fin 2048) : (val_main_v1 (F := Ideal) x0 (ix2 b t) : EReal) = ∑ j : Fin 2048, x0 (ix3 b t j) * x0 (ix3 b t j) := by
  pointwise [val_main_v1, val_main_v0, val_main_cst]

/-- An entry of the plain normalised and modulated rows. -/
theorem ref_h (b : Fin 8) (t k : Fin 2048) : (val_main_v18 (F := Ideal) x0 x1 x2 x3 (ix3 b t k) : EReal) =
    hent (fun j => x0 (ix3 b t j)) (x1 (ix1 k)) (x2 (ix3 b 0 k)) (x3 (ix3 b 0 k)) k := by
  unfold hent
  rw [← sq_at x0 b t]
  unfold val_main_v18 val_main_v17 val_main_v16 val_main_v15 val_main_v14 val_main_v13 val_main_v12 val_main_v11 val_main_v10 val_main_v9 val_main_v8 val_main_v7 val_main_v6 val_main_v5 val_main_v4 val_main_v3 val_main_v2 val_main_cst_0 val_main_cst_1 val_main_cst_2
  generalize val_main_v1 (F := Ideal) x0 = y
  pointwise

/-- An entry of the plain result. -/
theorem ref_at (b : Fin 8) (t : Fin 2048) (n : Fin 2048) : (val_main_v20 (F := Ideal) x0 x1 x2 x3 x4 (ix3 b t n) : EReal) =
    ∑ k : Fin 2048, hent (fun j => x0 (ix3 b t j)) (x1 (ix1 k)) (x2 (ix3 b 0 k)) (x3 (ix3 b 0 k)) k * x4 (ix2 k n) := by
  simp only [← ref_h x0 x1 x2 x3 b t]
  unfold val_main_v20
  generalize val_main_v18 (F := Ideal) x0 x1 x2 x3 = y
  pointwise [val_main_v19]

/-- An entry of the plain rows, turned. -/
theorem ref_turned (b : Fin 8) (k t : Fin 2048) : (val_main_v22 (F := Ideal) x0 x1 x2 x3 (ix3 b k t) : EReal) =
    hent (fun j => x0 (ix3 b t j)) (x1 (ix1 k)) (x2 (ix3 b 0 k)) (x3 (ix3 b 0 k)) k := by
  rw [← ref_h x0 x1 x2 x3 b t k]
  unfold val_main_v22 val_main_v21
  generalize val_main_v18 (F := Ideal) x0 x1 x2 x3 = y
  pointwise

end

section
open Cert.Kernel4Ideal Cert.Kernel4Ideal.Gen Cert.Kernel4Ideal.Run
variable (m : (ℓ : Loc nD τ sig) → Buf (Elt Ideal) ℓ) (c : Dev nD)

/-- An entry of a row block, normalised and modulated. -/
theorem rows_at (X : Vec Ideal S1x1024x2048 .f32) (G : Vec Ideal S1x2048 .f32) (H C : Vec Ideal S1x1x2048 .f32) (r : Fin 1024) (k : Fin 2048) :
    (rows (F := Ideal) X G H C (ix3 0 r k) : EReal) = hent (fun j => X (ix3 0 r j)) (G (ix2 0 k)) (H (ix3 0 0 k)) (C (ix3 0 0 k)) k := by
  unfold rows k0_pay1 k0_pay8 k0_pay7 hent
  pointwise

/-- An entry of a row block, turned. -/
theorem turned_at (X : Vec Ideal S1x1024x2048 .f32) (G : Vec Ideal S1x2048 .f32) (H C : Vec Ideal S1x1x2048 .f32) (r : Fin 1024) (k : Fin 2048) :
    (turned (F := Ideal) X G H C (ix3 0 k r) : EReal) = hent (fun j => X (ix3 0 r j)) (G (ix2 0 k)) (H (ix3 0 0 k)) (C (ix3 0 0 k)) k := by
  unfold turned
  rw [View.canon_cons_unit_lit inb_S1x2048x1024_S1x2048x1024_0_0_0 _ _ (by decide)]
  unfold k0_pay2 k0_pay7 hent
  pointwise

/-- An entry of a block of the result. -/
theorem proj_at (h : FVec Ideal S1x1024x2048 .bf16) (W : Vec Ideal S2048x512 .bf16) (r : Fin 1024) (e : Fin 512) :
    (proj (F := Ideal) h W (ix3 0 r e) : EReal) = ∑ k : Fin 2048, h (ix3 0 r k) * W (ix2 k e) := by
  unfold proj
  rw [View.canon_cons_unit_lit inb_S1x1024x512_S1x1024x512_0_0_0 _ _ (by decide)]
  unfold k0_pay3
  pointwise

/-- Every window's block, by grid point: the batch, the half of the tokens and the block of columns. -/
theorem idx : ∀ t : Fin cfg0.N, (t.val % 4 = 3 → t.val < 64 →
      win0_0.index t = ![t.val / 8, t.val / 4 % 2, 0] ∧ win0_1.index t = ![0, 0] ∧
      win0_2.index t = ![t.val / 8, 0, 0] ∧ win0_3.index t = ![t.val / 8, 0, 0]) ∧
    win0_4.index t = ![0, t.val % 4] ∧
    (4 ≤ t.val → win0_5.index t = ![(t.val / 4 - 1) / 2, (t.val / 4 - 1) % 2, t.val % 4]) ∧
    (win0_5.flush t = true → 4 ≤ t.val) ∧
    win0_6.index t = ![min (t.val / 4) 15 / 2, 0, min (t.val / 4) 15 % 2] :=
  (by decide +kernel : ∀ t : Fin grid0.N, _)

/-- The rows the call starts from. -/
abbrev B0 : FVec Ideal S8x2048x2048 .f32 := m (c, Proc.tc.devRef main_arg0)
/-- The gains. -/
abbrev B1 : FVec Ideal S2048 .f32 := m (c, Proc.tc.devRef main_arg1)
/-- The shifts. -/
abbrev B2 : FVec Ideal S8x1x2048 .f32 := m (c, Proc.tc.devRef main_arg2)
/-- The scales. -/
abbrev B3 : FVec Ideal S8x1x2048 .f32 := m (c, Proc.tc.devRef main_arg3)
/-- The weight. -/
abbrev B4 : FVec Ideal S2048x2048 .bf16 := m (c, Proc.tc.devRef main_arg4)

/-- The gains, as one row. -/
theorem V0 (k : Fin 2048) : (V m c main_v0 (ix2 0 k) : EReal) = B1 m c (ix1 k) := by
  unfold V
  after_reads_at

/-- The blocks the normalising point of a row block reads. -/
theorem blks (t : Fin cfg0.N) (h5 : t.val % 4 = 3) (h64 : t.val < 64) (r : Fin 1024) (k : Fin 2048) :
    (iblk m c 0 t (ix3 0 r k) : EReal) = B0 m c (ix3 ⟨t.val / 8, by omega⟩ ⟨t.val / 4 % 2 * 1024 + r.val, by omega⟩ k) ∧
    (iblk m c 1 t (ix2 0 k) : EReal) = V m c main_v0 (ix2 0 k) ∧
    (iblk m c 2 t (ix3 0 0 k) : EReal) = B2 m c (ix3 ⟨t.val / 8, by omega⟩ 0 k) ∧
    (iblk m c 3 t (ix3 0 0 k) : EReal) = B3 m c (ix3 ⟨t.val / 8, by omega⟩ 0 k) := by
  obtain ⟨i0, i1, i2, i3⟩ := (idx t).1 h5 h64
  refine ⟨?_, ?_, ?_, ?_⟩
  · blk_ext [iblk, V, i0]
  · blk_ext [iblk, i1]
  · blk_ext [iblk, V, i2]
  · blk_ext [iblk, V, i3]

/-- A normalised row block, from the arrays. -/
theorem hrow_at (q : ℕ) (hq : q < 16) (r : Fin 1024) (k : Fin 2048) : (hrow m c q (ix3 0 r k) : EReal) =
    hent (fun j => B0 m c (ix3 ⟨q / 2, by omega⟩ ⟨q % 2 * 1024 + r.val, by omega⟩ j)) (B1 m c (ix1 k)) (B2 m c (ix3 ⟨q / 2, by omega⟩ 0 k))
      (B3 m c (ix3 ⟨q / 2, by omega⟩ 0 k)) k := by
  unfold hrow
  have hv : (pt q).val = 4 * q + 3 := by show (4 * q + 3) % 68 = _; omega
  have e1 : (pt q).val / 8 = q / 2 := by omega
  have e2 : (pt q).val / 4 = q := by omega
  have hb := blks m c (pt q) (by omega) (by omega) r
  rw [rows_at]
  simp only [fun j => (hb j).1, (hb k).2.1, (hb k).2.2.1, (hb k).2.2.2, e1, e2]
  rw [V0 m c k]

/-- The same, turned. -/
theorem hturn_at (q : ℕ) (hq : q < 16) (r : Fin 1024) (k : Fin 2048) : (hturn m c q (ix3 0 k r) : EReal) =
    hent (fun j => B0 m c (ix3 ⟨q / 2, by omega⟩ ⟨q % 2 * 1024 + r.val, by omega⟩ j)) (B1 m c (ix1 k)) (B2 m c (ix3 ⟨q / 2, by omega⟩ 0 k))
      (B3 m c (ix3 ⟨q / 2, by omega⟩ 0 k)) k := by
  unfold hturn
  have hv : (pt q).val = 4 * q + 3 := by show (4 * q + 3) % 68 = _; omega
  have e1 : (pt q).val / 8 = q / 2 := by omega
  have e2 : (pt q).val / 4 = q := by omega
  have hb := blks m c (pt q) (by omega) (by omega) r
  rw [turned_at]
  simp only [fun j => (hb j).1, (hb k).2.1, (hb k).2.2.1, (hb k).2.2.2, e1, e2]
  rw [V0 m c k]

/-- The kernel's result is the plain code's. -/
theorem final : (dats m 0 c).arrAt 5 cfg0.N =
    Cert.Reference4Ideal.Read.val_main_v20 (F := Ideal) (B0 m c) (B1 m c) (B2 m c) (B3 m c) (B4 m c) := by
  refine (dats m 0 c).arrAt_eq_of_covers 5 _ (by decide +kernel) fun t hf y => ?_
  blk_simp
  rw [after5]
  have h6 : 4 ≤ t.val := (idx t).2.2.2.1 hf
  have hN := lt68 t
  have i5 := (idx t).2.2.1 h6
  have i4 := (idx t).2.1
  have hi : (((cfg0.win 5).blk t).view.emb y : S8x2048x2048.Idx) = ix3 ⟨(t.val / 4 - 1) / 2, by omega⟩
      ⟨(t.val / 4 - 1) % 2 * 1024 + (y 1).val, by have : (y 1).val < 1024 := (y 1).isLt; omega⟩ ⟨t.val % 4 * 512 + (y 2).val, by have : (y 2).val < 512 := (y 2).isLt; omega⟩ := by
    blk_ext [i5]
  refine Eq.trans ?_ (congrArg (Cert.Reference4Ideal.Read.val_main_v20 (F := Ideal) (B0 m c) (B1 m c) (B2 m c) (B3 m c) (B4 m c)) hi).symm
  rw [ref_at]
  have hy : (y : S1x1024x512.Idx) = ix3 0 (y 1) (y 2) := by
    idx_vars y
    exact congrArg (fun i => ix3 i y1 y2) (Subsingleton.elim y0 0)
  refine (congrArg (proj (F := Ideal) _ _) hy).trans ((proj_at _ _ _ _).trans ?_)
  refine Finset.sum_congr rfl fun k _ => ?_
  refine congrArg₂ (· * ·) (hrow_at m c (t.val / 4 - 1) (by omega) (y 1) k) ?_
  blk_ext [iblk, V, i4]

/-- The kernel's turned rows are the plain code's. -/
theorem final6 : (dats m 0 c).arrAt 6 cfg0.N =
    Cert.Reference4Ideal.Read.val_main_v22 (F := Ideal) (B0 m c) (B1 m c) (B2 m c) (B3 m c) := by
  refine (dats m 0 c).arrAt_eq_of_covers 6 _ (by decide +kernel) fun t hf y => ?_
  blk_simp
  rw [after6]
  have i6 := (idx t).2.2.2.2
  have hq : min (t.val / 4) 15 < 16 := by omega
  have hi : (((cfg0.win 6).blk t).view.emb y : S8x2048x2048.Idx) = ix3 ⟨min (t.val / 4) 15 / 2, by omega⟩
      ⟨(y 1).val, (y 1).isLt⟩ ⟨min (t.val / 4) 15 % 2 * 1024 + (y 2).val, by have : (y 2).val < 1024 := (y 2).isLt; omega⟩ := by
    blk_ext [i6]
  refine Eq.trans ?_ (congrArg (Cert.Reference4Ideal.Read.val_main_v22 (F := Ideal) (B0 m c) (B1 m c) (B2 m c) (B3 m c)) hi).symm
  refine Eq.trans ?_ (ref_turned _ _ _ _ _ _ _).symm
  have hy : (y : S1x2048x1024.Idx) = ix3 0 (y 1) (y 2) := by
    idx_vars y
    exact congrArg (fun i => ix3 i y1 y2) (Subsingleton.elim y0 0)
  exact (congrArg (hturn m c _) hy).trans (hturn_at m c _ hq (y 2) (y 1))

end

/-- The kernel and its ideal form have one body. -/
theorem body_eq {F : FTy → Type} [FloatOps F] : Cert.Kernel4.defs₀ (F := F) = Cert.Kernel4Ideal.defs₀ (F := F) :=
  congrArg Defs.onTc (funext fun l => funext fun x => by
    match l, x with
    | 0, (t, s) => rfl
    | ⟨n + 1, h⟩, _ => exact absurd h (Nat.not_lt.2 (Nat.le_add_left _ _)))
/-- So they are one program. -/
theorem defs_eq {F : FTy → Type} [FloatOps F] : Cert.Kernel4.defs (F := F) = Cert.Kernel4Ideal.defs (F := F) :=
  congrArg (Pipeline.defs Cert.Kernel4Ideal.pcfgs) body_eq
/-- The kernel runs and leaves its arguments. -/
theorem frame_p : Cert.quiescent_Kernel4 (hKernel4 := Cert.Kernel4.Gen.facts) := fun m ρ _ => by
  rw [defs_eq]
  exact Cert.Kernel4Ideal.Run.frame (F := Bits) m ρ
/-- So does its ideal form. -/
theorem frame_pi : Cert.quiescent_Kernel4Ideal (hKernel4Ideal := Cert.Kernel4Ideal.Gen.facts) := fun m ρ _ => Cert.Kernel4Ideal.Run.frame m ρ
/-- The plain code runs and leaves its arguments. -/
theorem frame_r : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The kernel and the plain modulated query projection end with equal results. -/
theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => Cert.Reference4Ideal.Read.val_main_v20 (F := Ideal) (B0 m c) (B1 m c) (B2 m c) (B3 m c) (B4 m c),
    fun c => Cert.Reference4Ideal.Read.val_main_v22 (F := Ideal) (B0 m c) (B1 m c) (B2 m c) (B3 m c), ?_, ?_⟩
  · exact (θ_run Cert.Kernel4Ideal.defs _ _).mono (fun r h c => ⟨((h.1.1 c).1 5).trans (final m c), ((h.1.1 c).1 6).trans (final6 m c), h.2.1 c⟩)
      (θ_run_and (Cert.Kernel4Ideal.Run.run_main (F := Ideal) m ρ) (Cert.Kernel4Ideal.Run.frame (F := Ideal) m ρ))
  · refine (θ_run Cert.Reference4Ideal.defs _ _).mono (fun r h c => ⟨(h c).1.trans ?_, (h c).2.1.trans ?_, (h c).2.2⟩)
      (Cert.Reference4Ideal.Value.run (F := Ideal) m' ρ')
    · refine (Cert.Reference4Ideal.Read.val_main_v20_eq (F := Ideal) _ _ _ _ _).trans ?_
      show Cert.Reference4Ideal.Read.val_main_v20 (F := Ideal) (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2))
        (m' ((c.tc : Thread Cert.Reference4Ideal.nD Cert.Reference4Ideal.τ).loc Cert.Reference4Ideal.main_arg3))
        (m' ((c.tc : Thread Cert.Reference4Ideal.nD Cert.Reference4Ideal.τ).loc Cert.Reference4Ideal.main_arg4)) = _
      rw [(hagree c).1, (hagree c).2.1, (hagree c).2.2.1, (hagree c).2.2.2.1, (hagree c).2.2.2.2]
    · refine (Cert.Reference4Ideal.Read.val_main_v22_eq (F := Ideal) _ _ _ _).trans ?_
      show Cert.Reference4Ideal.Read.val_main_v22 (F := Ideal) (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2))
        (m' ((c.tc : Thread Cert.Reference4Ideal.nD Cert.Reference4Ideal.τ).loc Cert.Reference4Ideal.main_arg3)) = _
      rw [(hagree c).1, (hagree c).2.1, (hagree c).2.2.1, (hagree c).2.2.2.1]

end Cert.Query
-- ==== Proof.Out.lean ====
module
public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt
@[expose] public section
set_option maxRecDepth 16384
noncomputable section
open Idealize.ShloMosaic Idealize.ShloMosaic.TcCoe Idealize.SL.Sem
open Idealize.ShloMosaic.Pipeline (Dat)
namespace Cert.Out

/-- A sum over all mixed channels is the sum over the three mixers' channels. -/
theorem sum_three (f : Fin 2048 → EReal) : ∑ k, f k =
    ∑ k : Fin 512, f ⟨k.val, by omega⟩ + ∑ k : Fin 1024, f ⟨512 + k.val, by omega⟩ + ∑ k : Fin 512, f ⟨1536 + k.val, by omega⟩ := by
  refine (Fin.sum_univ_add (a := 1536) (b := 512) f).trans ?_
  exact congrArg (· + _) (Fin.sum_univ_add (a := 512) (b := 1024) fun i : Fin (512 + 1024) => f ⟨i.val, by omega⟩)

/-- One entry of the gated residual, from the three mixers' rows and the columns of the projection's three parts. -/
def entry (a : Fin 512 → EReal) (b : Fin 1024 → EReal) (c : Fin 512 → EReal) (wa : Fin 512 → EReal) (wb : Fin 1024 → EReal)
    (wc : Fin 512 → EReal) (x g : EReal) : EReal :=
  x + g * (∑ k, a k * wa k + ∑ k, b k * wb k + ∑ k, c k * wc k)

section
open Cert.Reference3Ideal Cert.Reference3Ideal.Read
variable (x0 x2 : FVec Ideal S8x2048x512 .bf16) (x1 : FVec Ideal S8x2048x1024 .bf16) (x3 : FVec Ideal S2048x2048 .bf16)
  (x4 : FVec Ideal S8x2048x2048 .f32) (x5 : FVec Ideal S8x1x2048 .f32)

/-- The joined mixers, part by part. -/
theorem joined_at (b : Fin 8) (t : Fin 2048) :
    (∀ k : Fin 512, (val_main_v1 (F := Ideal) x0 x1 x2 (ix3 b t ⟨k.val, by omega⟩) : EReal) = x0 (ix3 b t k)) ∧
    (∀ k : Fin 1024, (val_main_v1 (F := Ideal) x0 x1 x2 (ix3 b t ⟨512 + k.val, by omega⟩) : EReal) = x1 (ix3 b t k)) ∧
    (∀ k : Fin 512, (val_main_v1 (F := Ideal) x0 x1 x2 (ix3 b t ⟨1536 + k.val, by omega⟩) : EReal) = x2 (ix3 b t k)) := by
  refine ⟨fun k => ?_, fun k => ?_, fun k => ?_⟩
  · have hk := k.isLt
    pointwise [val_main_v1, val_main_v0]
  · have hk := k.isLt
    pointwise [val_main_v1, val_main_v0]
  · have hk := k.isLt
    have hl : (⟨1536 + k.val - 512 - 1024, by omega⟩ : Fin 512) = k := Fin.ext (by show 1536 + k.val - 512 - 1024 = k.val; omega)
    pointwise [val_main_v1, val_main_v0]
    rw [dif_neg (by omega), dif_neg (by omega)]
    exact congrArg (fun i => x2 (ix3 b t i)) hl

/-- An entry of the plain result. -/
theorem ref_at (b : Fin 8) (t n : Fin 2048) : (val_main_v6 (F := Ideal) x0 x1 x2 x3 x4 x5 (ix3 b t n) : EReal) =
    entry (fun k => x0 (ix3 b t k)) (fun k => x1 (ix3 b t k)) (fun k => x2 (ix3 b t k))
      (fun k => x3 (ix2 ⟨k.val, by omega⟩ n)) (fun k => x3 (ix2 ⟨512 + k.val, by omega⟩ n)) (fun k => x3 (ix2 ⟨1536 + k.val, by omega⟩ n))
      (x4 (ix3 b t n)) (x5 (ix3 b 0 n)) := by
  have hj := joined_at x0 x2 x1 b t
  unfold entry val_main_v6 val_main_v5 val_main_v3
  generalize val_main_v1 (F := Ideal) x0 x1 x2 = y at hj ⊢
  simp only [← hj.1, ← hj.2.1, ← hj.2.2]
  rw [← sum_three fun k => y (ix3 b t k) * x3 (ix2 k n)]
  pointwise [val_main_v4, val_main_v2]

end

section
open Cert.Kernel3Ideal Cert.Kernel3Ideal.Gen
variable (m : (ℓ : Loc nD τ sig) → Buf (Elt Ideal) ℓ) (c : Dev nD)

/-- Every window's block, by grid point: the batch, the half of the tokens and the block of columns. -/
theorem idx : ∀ t : Fin cfg0.N,
    win0_0.index t = ![t.val / 8, t.val / 4 % 2, 0] ∧ win0_1.index t = ![t.val / 8, t.val / 4 % 2, 0] ∧
    win0_2.index t = ![t.val / 8, t.val / 4 % 2, 0] ∧
    win0_3.index t = ![0, t.val % 4] ∧ win0_4.index t = ![0, t.val % 4] ∧ win0_5.index t = ![0, t.val % 4] ∧
    win0_6.index t = ![t.val / 8, t.val / 4 % 2, t.val % 4] ∧ win0_7.index t = ![t.val / 8, 0, t.val % 4] ∧
    win0_8.index t = ![t.val / 8, t.val / 4 % 2, t.val % 4] :=
  (by decide +kernel : ∀ t : Fin grid0.N, _)

/-- The number of grid points. -/
theorem lt64 (t : Fin cfg0.N) : t.val < 64 := lt_of_lt_of_eq t.isLt N_0

/-- What a point's block holds, from the blocks it reads. -/
theorem block_at (X0 : Vec Ideal S1x1024x512 .bf16) (X1 : Vec Ideal S1x1024x1024 .bf16) (X2 : Vec Ideal S1x1024x512 .bf16)
    (W0 : Vec Ideal S512x512 .bf16) (W1 : Vec Ideal S1024x512 .bf16) (W2 : Vec Ideal S512x512 .bf16)
    (X : Vec Ideal S1x1024x512 .f32) (G : Vec Ideal S1x1x512 .f32) (r : Fin 1024) (e : Fin 512) :
    (out0_8 (F := Ideal) X0 X1 X2 W0 W1 W2 X G (ix3 0 r e) : EReal) =
      entry (fun k => X0 (ix3 0 r k)) (fun k => X1 (ix3 0 r k)) (fun k => X2 (ix3 0 r k))
        (fun k => W0 (ix2 k e)) (fun k => W1 (ix2 k e)) (fun k => W2 (ix2 k e)) (X (ix3 0 r e)) (G (ix3 0 0 e)) := by
  frame_out
  open_payloads
  pointwise [entry]

/-- The arrays the call starts from. -/
abbrev B0 : FVec Ideal S8x2048x512 .bf16 := m (c, Proc.tc.devRef main_arg0)
/-- The attention's rows. -/
abbrev B1 : FVec Ideal S8x2048x1024 .bf16 := m (c, Proc.tc.devRef main_arg1)
/-- The retention's rows. -/
abbrev B2 : FVec Ideal S8x2048x512 .bf16 := m (c, Proc.tc.devRef main_arg2)
/-- The projection. -/
abbrev B3 : FVec Ideal S2048x2048 .bf16 := m (c, Proc.tc.devRef main_arg3)
/-- The stream. -/
abbrev B4 : FVec Ideal S8x2048x2048 .f32 := m (c, Proc.tc.devRef main_arg4)
/-- The gate. -/
abbrev B5 : FVec Ideal S8x1x2048 .f32 := m (c, Proc.tc.devRef main_arg5)

/-- The projection's first part. -/
theorem V0 (k : Fin 512) (n : Fin 2048) : (V m c main_v0 (ix2 k n) : EReal) = B3 m c (ix2 ⟨k.val, by omega⟩ n) := by
  unfold V
  after_reads_at
/-- The projection's second part. -/
theorem V1 (k : Fin 1024) (n : Fin 2048) : (V m c main_v1 (ix2 k n) : EReal) = B3 m c (ix2 ⟨512 + k.val, by omega⟩ n) := by
  unfold V
  after_reads_at
/-- The projection's third part. -/
theorem V2 (k : Fin 512) (n : Fin 2048) : (V m c main_v2 (ix2 k n) : EReal) = B3 m c (ix2 ⟨1536 + k.val, by omega⟩ n) := by
  unfold V
  after_reads_at

variable (t : Fin cfg0.N)
/-- The batch of a point. -/
abbrev bOf : Fin 8 := ⟨t.val / 8, by have := lt64 t; omega⟩
/-- A row of a point, as a token. -/
abbrev rowOf (r : Fin 1024) : Fin 2048 := ⟨t.val / 4 % 2 * 1024 + r.val, by omega⟩
/-- A column of a point. -/
abbrev colOf (e : Fin 512) : Fin 2048 := ⟨t.val % 4 * 512 + e.val, by omega⟩

/-- The blocks a point reads. -/
theorem blks (r : Fin 1024) (e : Fin 512) :
    (∀ k : Fin 512, (iblk m c 0 t (ix3 0 r k) : EReal) = B0 m c (ix3 (bOf t) (rowOf t r) k)) ∧
    (∀ k : Fin 1024, (iblk m c 1 t (ix3 0 r k) : EReal) = B1 m c (ix3 (bOf t) (rowOf t r) k)) ∧
    (∀ k : Fin 512, (iblk m c 2 t (ix3 0 r k) : EReal) = B2 m c (ix3 (bOf t) (rowOf t r) k)) ∧
    (∀ k : Fin 512, (iblk m c 3 t (ix2 k e) : EReal) = V m c main_v0 (ix2 k (colOf t e))) ∧
    (∀ k : Fin 1024, (iblk m c 4 t (ix2 k e) : EReal) = V m c main_v1 (ix2 k (colOf t e))) ∧
    (∀ k : Fin 512, (iblk m c 5 t (ix2 k e) : EReal) = V m c main_v2 (ix2 k (colOf t e))) ∧
    (iblk m c 6 t (ix3 0 r e) : EReal) = B4 m c (ix3 (bOf t) (rowOf t r) (colOf t e)) ∧
    (iblk m c 7 t (ix3 0 0 e) : EReal) = B5 m c (ix3 (bOf t) 0 (colOf t e)) := by
  refine ⟨fun k => ?_, fun k => ?_, fun k => ?_, fun k => ?_, fun k => ?_, fun k => ?_, ?_, ?_⟩
  · blk_ext [iblk, V, idx t]
  · blk_ext [iblk, V, idx t]
  · blk_ext [iblk, V, idx t]
  · blk_ext [iblk, idx t]
  · blk_ext [iblk, idx t]
  · blk_ext [iblk, idx t]
  · blk_ext [iblk, V, idx t]
  · blk_ext [iblk, V, idx t]

/-- The kernel's result is the plain code's. -/
theorem final : (dats m 0 c).arrAt 8 cfg0.N =
    Cert.Reference3Ideal.Read.val_main_v6 (F := Ideal) (B0 m c) (B1 m c) (B2 m c) (B3 m c) (B4 m c) (B5 m c) := by
  refine (dats m 0 c).arrAt_eq_of_covers 8 _ (by decide +kernel) fun t hf y => ?_
  blk_simp
  rw [after0_8]
  have hi : (((cfg0.win 8).blk t).view.emb y : S8x2048x2048.Idx) = ix3 (bOf t) (rowOf t (y 1)) (colOf t (y 2)) := by
    blk_ext [idx t]
  refine Eq.trans ?_ (congrArg (Cert.Reference3Ideal.Read.val_main_v6 (F := Ideal) (B0 m c) (B1 m c) (B2 m c) (B3 m c) (B4 m c) (B5 m c)) hi).symm
  rw [ref_at]
  have hy : (y : S1x1024x512.Idx) = ix3 0 (y 1) (y 2) := by
    idx_vars y
    exact congrArg (fun i => ix3 i y1 y2) (Subsingleton.elim y0 0)
  refine (congrArg (out0_8 (F := Ideal) _ _ _ _ _ _ _ _) hy).trans ((block_at _ _ _ _ _ _ _ _ _ _).trans ?_)
  obtain ⟨h0, h1, h2, h3, h4, h5, h6, h7⟩ := blks m c t (y 1) (y 2)
  simp only [h0, h1, h2, h3, h4, h5, h6, h7]
  rw [funext fun k => V0 m c k (colOf t (y 2)), funext fun k => V1 m c k (colOf t (y 2)), funext fun k => V2 m c k (colOf t (y 2))]

end

/-- The kernel runs and leaves its arguments. -/
theorem frame_p : Cert.quiescent_Kernel3 (hKernel3 := Cert.Kernel3.Gen.facts) := fun m ρ _ => Cert.Kernel3.Gen.frame m ρ
/-- So does its ideal form. -/
theorem frame_pi : Cert.quiescent_Kernel3Ideal (hKernel3Ideal := Cert.Kernel3Ideal.Gen.facts) := fun m ρ _ => Cert.Kernel3Ideal.Gen.frame m ρ
/-- The plain code runs and leaves its arguments. -/
theorem frame_r : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel and the plain output projection end with equal results. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Cert.Reference3Ideal.Read.val_main_v6 (F := Ideal) (B0 m c) (B1 m c) (B2 m c) (B3 m c) (B4 m c) (B5 m c), ?_, ?_⟩
  · exact (θ_run Cert.Kernel3Ideal.defs _ _).mono (fun r h c => ⟨(h c).1.trans (final m c), (h c).2⟩) (Cert.Kernel3Ideal.Value.run_blocks (F := Ideal) m ρ)
  · refine (θ_run Cert.Reference3Ideal.defs _ _).mono (fun r h c => ⟨(h c).1.trans ?_, (h c).2⟩) (Cert.Reference3Ideal.Value.run (F := Ideal) m' ρ')
    refine (Cert.Reference3Ideal.Read.val_main_v6_eq (F := Ideal) _ _ _ _ _ _).trans ?_
    show Cert.Reference3Ideal.Read.val_main_v6 (F := Ideal) (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4))
      (m' ((c.tc : Thread Cert.Reference3Ideal.nD Cert.Reference3Ideal.τ).loc Cert.Reference3Ideal.main_arg5)) = _
    rw [(hagree c).1, (hagree c).2.1, (hagree c).2.2.1, (hagree c).2.2.2.1, (hagree c).2.2.2.2.1, (hagree c).2.2.2.2.2]

end Cert.Out
-- ==== Proof.DSoft.lean ====
module
public import proofs.«01_k».proof.Proof.Soft
@[expose] public section
set_option maxRecDepth 16384
noncomputable section
open Idealize.ShloMosaic
namespace Cert.Diff
open Cert.Attn

/-- The number of lanes of half a head, as the plain code's float literal. -/
abbrev lanes64 : EReal := Ideal.ofBits FTy.f32 0x42800000#32
/-- Its reciprocal, as the kernel's float literal. -/
abbrev inv64 : EReal := Ideal.ofBits FTy.f32 0x3C800000#32
/-- The score scale, as the plain code's float literal. -/
abbrev eighth : EReal := Ideal.ofBits FTy.f32 0x3E000000#32
/-- The constant of lambda. -/
abbrev lam0 : EReal := Ideal.ofBits FTy.f32 0x3E4CCCCD#32
/-- One less that constant. -/
abbrev lam1 : EReal := Ideal.ofBits FTy.f32 0x3F4CCCCD#32

/-- The lane of half `m` of a head. -/
def half (m : Fin 2) (e : Fin 64) : Fin 128 := ⟨m.val * 64 + e.val, by omega⟩

/-- The sum of the squares of a row's lower half. -/
def lowSum (x : Fin 128 → EReal) : EReal := ∑ e : Fin 128, if e.val < 64 then x e * x e else 0

/-- A row of 128 numbers, each half scaled by the reciprocal root of its own mean square, as the kernel writes it: the upper
half's squares are all the squares less the lower half's. -/
def rmsH (x g : Fin 128 → EReal) (d : Fin 128) : EReal :=
  x d * Ideal.rsqrt ((if d.val < 64 then lowSum x else (∑ e, x e * x e) - lowSum x) * inv64 + eps) * g d

/-- Lambda, from its four rows of parameters. -/
def lamOf (a b c d : Fin 64 → EReal) : EReal := Ideal.exp (∑ e, a e * b e) - Ideal.exp (∑ e, c e * d e) + lam0

/-- A row with its upper half cleared. -/
def low (q : Fin 128 → EReal) (e : Fin 128) : EReal := if e.val < 64 then q e else 0
/-- A row with its lower half cleared. -/
def high (q : Fin 128 → EReal) (e : Fin 128) : EReal := if e.val < 64 then 0 else q e

/-- The power of two of a score less the largest. -/
def part (q : Fin 128 → EReal) (K : Fin 2304 → Fin 128 → EReal) (j : Fin 2304) : EReal :=
  Ideal.exp2 (score q K j - top (score q K))

/-- The kernel's differential attention of one query: one map's weighted sum less lambda times the other's. -/
def attendD (l : EReal) (q : Fin 128 → EReal) (K V : Fin 2304 → Fin 128 → EReal) (d : Fin 128) : EReal :=
  (∑ j, part (low q) K j * V j d) * Ideal.div 1 (∑ j, part (low q) K j) -
    (∑ j, part (high q) K j * V j d) * (l * Ideal.div 1 (∑ j, part (high q) K j))

/-- A row of 64 numbers scaled by the reciprocal root of its mean square and by a gain per lane. -/
def rms64 (x g : Fin 64 → EReal) (d : Fin 64) : EReal :=
  x d * Ideal.rsqrt (Ideal.div (∑ e, x e * x e) lanes64 + eps) * g d

/-- The plain rotation of a row of 64 numbers. -/
def rotH (z : Fin 64 → EReal) (A : Fin 32 → EReal) (d : Fin 64) : EReal :=
  if d.val % 2 < 1 then z ⟨2 * (d.val / 2), by omega⟩ * Ideal.cos (A ⟨d.val / 2, by omega⟩) -
      z ⟨1 + 2 * (d.val / 2), by omega⟩ * Ideal.sin (A ⟨d.val / 2, by omega⟩)
  else z ⟨2 * (d.val / 2), by omega⟩ * Ideal.sin (A ⟨d.val / 2, by omega⟩) +
      z ⟨1 + 2 * (d.val / 2), by omega⟩ * Ideal.cos (A ⟨d.val / 2, by omega⟩)

/-- The plain score of half a head. -/
def scoreH (q : Fin 64 → EReal) (K : Fin 2304 → Fin 64 → EReal) (j : Fin 2304) : EReal := (∑ e, q e * K j e) * eighth

/-- The exponential of a plain score less the largest. -/
def expH (q : Fin 64 → EReal) (K : Fin 2304 → Fin 64 → EReal) (j : Fin 2304) : EReal :=
  Ideal.exp (scoreH q K j - max ⊥ (top (scoreH q K)))

/-- The plain softmax weight. -/
def wgtH (q : Fin 64 → EReal) (K : Fin 2304 → Fin 64 → EReal) (j : Fin 2304) : EReal :=
  Ideal.div (expH q K j) (∑ i, expH q K i)

/-- The plain differential attention of one query: the difference of two softmax maps, times the values. -/
def attendH (l : EReal) (q : Fin 2 → Fin 64 → EReal) (K : Fin 2 → Fin 2304 → Fin 64 → EReal) (V : Fin 2304 → Fin 128 → EReal)
    (d : Fin 128) : EReal :=
  ∑ j, (wgtH (q 0) (K 0) j - l * wgtH (q 1) (K 1) j) * V j d

/-- The plain number of lanes is 64. -/
theorem lanes64_eq : lanes64 = ((64 : ℝ) : EReal) := by
  simp [lanes64, Ideal.ofBits, Ideal.ieee, -EReal.coe_mul]; norm_num
/-- The kernel's reciprocal is exact. -/
theorem inv64_eq : inv64 = ((1 / 64 : ℝ) : EReal) := by
  simp [inv64, Ideal.ofBits, Ideal.ieee, -EReal.coe_mul]; norm_num
/-- The plain score scale is an eighth. -/
theorem eighth_eq : eighth = ((8⁻¹ : ℝ) : EReal) := by
  simp [eighth, Ideal.ofBits, Ideal.ieee, -EReal.coe_mul]; norm_num
/-- The constant of lambda is finite. -/
theorem lam0_real : Real' lam0 := by
  refine ⟨_, by simp only [lam0, Ideal.ofBits, Ideal.ieee]; simp [-EReal.coe_mul]; rfl⟩

/-- A sum over a head's lanes is a sum over the lower half and one over the upper half. -/
theorem sum_halves (f : Fin 128 → EReal) : ∑ e, f e = (∑ e, f (half 0 e)) + ∑ e, f (half 1 e) := by
  refine (Fin.sum_univ_add (a := 64) (b := 64) f).trans ?_
  refine congrArg₂ (· + ·) (Finset.sum_congr rfl fun e _ => congrArg f (Fin.ext ?_)) (Finset.sum_congr rfl fun e _ => congrArg f (Fin.ext ?_))
  · show e.val = 0 * 64 + e.val; omega
  · show 64 + e.val = 1 * 64 + e.val; omega

/-- The first half's lanes lie below 64. -/
theorem half0_lt (e : Fin 64) : (half 0 e).val < 64 := by show 0 * 64 + e.val < 64; omega
/-- The second half's lanes do not. -/
theorem half1_ge (e : Fin 64) : ¬ (half 1 e).val < 64 := by show ¬ 1 * 64 + e.val < 64; omega

/-- The lower half's squares. -/
theorem lowSum_eq (x : Fin 128 → EReal) : lowSum x = ∑ e, x (half 0 e) * x (half 0 e) := by
  rw [lowSum, sum_halves]
  simp only [half0_lt, half1_ge, if_true, if_false, Finset.sum_const_zero, add_zero]

/-- A finite sum of finite numbers is finite. -/
theorem real_sum {ι : Type} (s : Finset ι) (f : ι → EReal) (h : ∀ i, Real' (f i)) : Real' (∑ i ∈ s, f i) := by
  choose r hr using h
  exact ⟨∑ i ∈ s, r i, by rw [coe_sum]; exact Finset.sum_congr rfl fun i _ => hr i⟩

/-- The halves of the kernel's normalised row are the plain normalised halves, when the row is finite. -/
theorem rmsH_half (x g : Fin 128 → EReal) (hx : ∀ e, Real' (x e)) (m : Fin 2) (e : Fin 64) :
    rmsH x g (half m e) = rms64 (fun e => x (half m e)) (fun e => g (half m e)) e := by
  have h1 : (∑ e, x e * x e) - lowSum x = ∑ e, x (half 1 e) * x (half 1 e) := by
    rw [lowSum_eq, sum_halves]
    obtain ⟨a, ha⟩ := real_sum Finset.univ (fun e => x (half 0 e) * x (half 0 e)) fun e => (hx _).mul (hx _)
    obtain ⟨b, hb⟩ := real_sum Finset.univ (fun e => x (half 1 e) * x (half 1 e)) fun e => (hx _).mul (hx _)
    rw [ha, hb, ← EReal.coe_add, ← EReal.coe_sub, add_sub_cancel_left]
  rw [rmsH, rms64, lanes64_eq, Ideal.div_coe (by norm_num), inv64_eq]
  match m with
  | 0 => rw [if_pos (half0_lt e), lowSum_eq]
  | 1 => rw [if_neg (half1_ge e), h1]

/-- The plain normalised half is finite, when the row and the gain are. -/
theorem rms64_real (x g : Fin 64 → EReal) (hx : ∀ e, Real' (x e)) (hg : ∀ e, Real' (g e)) (d : Fin 64) : Real' (rms64 x g d) := by
  refine Real'.mul ((hx d).mul ?_) (hg d)
  obtain ⟨ε, hε, he⟩ := eps_pos
  rw [lanes64_eq, he, Ideal.div_coe (by norm_num)]
  choose r hr using hx
  have hs : (∑ e, x e * x e) = ((∑ e, r e * r e : ℝ) : EReal) := by
    rw [coe_sum]
    exact Finset.sum_congr rfl fun e _ => by rw [hr e, EReal.coe_mul]
  have hp : 0 < (∑ e, r e * r e) * (1 / 64) + ε := by
    have : 0 ≤ ∑ e, r e * r e := Finset.sum_nonneg fun e _ => mul_self_nonneg _
    positivity
  rw [hs, ← EReal.coe_mul, ← EReal.coe_add, Ideal.rsqrt_coe, if_neg (not_lt.2 hp.le), if_neg hp.ne']
  exact ⟨_, rfl⟩

/-- The halves of the kernel's rotated row are the plain rotated halves. -/
theorem rot_half (z c s : Fin 128 → EReal) (A : Fin 32 → EReal)
    (hc : ∀ (m : Fin 2) (e : Fin 64), c (half m e) = Ideal.cos (A ⟨e.val / 2, by omega⟩))
    (hs : ∀ (m : Fin 2) (e : Fin 64), s (half m e) = Ideal.sin (A ⟨e.val / 2, by omega⟩) * (if e.val % 2 = 0 then (-1 : EReal) else 1))
    (m : Fin 2) (e : Fin 64) : rot z c s (half m e) = rotH (fun e => z (half m e)) A e := by
  rw [rot, rotH, hc, hs]
  have hv : (half m e).val = m.val * 64 + e.val := rfl
  by_cases h : e.val % 2 = 0
  · have e0 : half m ⟨2 * (e.val / 2), by omega⟩ = half m e := Fin.ext (by show m.val * 64 + 2 * (e.val / 2) = m.val * 64 + e.val; omega)
    have e1 : (⟨((half m e).val + 128 - 127) % 128, by omega⟩ : Fin 128) = half m ⟨1 + 2 * (e.val / 2), by omega⟩ :=
      Fin.ext (by show ((half m e).val + 128 - 127) % 128 = m.val * 64 + (1 + 2 * (e.val / 2)); rw [hv]; omega)
    rw [if_pos (show (half m e).val % 2 = 0 by rw [hv]; omega), if_pos h, if_pos (by omega), e0, e1, mul_neg, mul_one, mul_neg, sub_eq_add_neg]
  · have e0 : half m ⟨1 + 2 * (e.val / 2), by omega⟩ = half m e := Fin.ext (by show m.val * 64 + (1 + 2 * (e.val / 2)) = m.val * 64 + e.val; omega)
    have e1 : (⟨((half m e).val + 128 - 1) % 128, by omega⟩ : Fin 128) = half m ⟨2 * (e.val / 2), by omega⟩ :=
      Fin.ext (by show ((half m e).val + 128 - 1) % 128 = m.val * 64 + 2 * (e.val / 2); rw [hv]; omega)
    rw [if_neg (show ¬ (half m e).val % 2 = 0 by rw [hv]; omega), if_neg h, if_neg (by omega), e0, e1, mul_one, add_comm]

/-- A rotated half is finite if it and the angles are. -/
theorem rotH_real (z : Fin 64 → EReal) (A : Fin 32 → EReal) (hz : ∀ d, Real' (z d)) (hA : ∀ i, Real' (A i)) (d : Fin 64) :
    Real' (rotH z A d) := by
  rw [rotH]
  split
  · exact ((hz _).mul (hA _).cos).sub ((hz _).mul (hA _).sin)
  · exact ((hz _).mul (hA _).sin).add ((hz _).mul (hA _).cos)

/-- Lambda is finite, when its parameters are. -/
theorem lamOf_real (a b c d : Fin 64 → EReal) (ha : ∀ e, Real' (a e)) (hb : ∀ e, Real' (b e)) (hc : ∀ e, Real' (c e)) (hd : ∀ e, Real' (d e)) :
    Real' (lamOf a b c d) := by
  obtain ⟨x, hx⟩ := real_sum Finset.univ (fun e => a e * b e) fun e => (ha e).mul (hb e)
  obtain ⟨y, hy⟩ := real_sum Finset.univ (fun e => c e * d e) fun e => (hc e).mul (hd e)
  rw [lamOf, hx, hy, Ideal.exp_coe, Ideal.exp_coe]
  exact Real'.add (Real'.sub ⟨_, rfl⟩ ⟨_, rfl⟩) lam0_real

/-- The score scale the kernel folds into its queries. -/
abbrev scaleD : ℝ := (8 : ℝ)⁻¹ * (Real.log 2)⁻¹

/-- Powers of two of the kernel's scores less the largest are the exponentials of the plain ones, and positive. -/
theorem soft_eq (a : Fin 2304 → ℝ) : ∃ p : Fin 2304 → ℝ, (∀ j, 0 < p j) ∧
    (∀ j, Ideal.exp2 (((a j * scaleD : ℝ) : EReal) - top fun j => ((a j * scaleD : ℝ) : EReal)) = (p j : EReal)) ∧
    (∀ j, Ideal.exp (((a j * 8⁻¹ : ℝ) : EReal) - max ⊥ (top fun j => ((a j * 8⁻¹ : ℝ) : EReal))) = (p j : EReal)) := by
  have hl : (0 : ℝ) < Real.log 2 := Real.log_pos (by norm_num)
  obtain ⟨i, -, hi⟩ := Finset.exists_max_image Finset.univ a ⟨0, Finset.mem_univ _⟩
  have t2 := top_eq (fun j => a j * scaleD) i fun j => mul_le_mul_of_nonneg_right (hi j (Finset.mem_univ j)) (by positivity)
  have tR := top_eq (fun j => a j * 8⁻¹) i fun j => mul_le_mul_of_nonneg_right (hi j (Finset.mem_univ j)) (by positivity)
  refine ⟨fun j => Real.exp (a j * 8⁻¹ - a i * 8⁻¹), fun j => Real.exp_pos _, fun j => ?_, fun j => ?_⟩
  · show _ = ((Real.exp (a j * 8⁻¹ - a i * 8⁻¹) : ℝ) : EReal)
    rw [t2, ← EReal.coe_sub, Ideal.exp2_coe]
    refine congrArg (fun r : ℝ => (r : EReal)) ?_
    rw [Real.rpow_eq_pow, Real.rpow_def_of_pos (by norm_num)]
    refine congrArg Real.exp ?_
    show Real.log 2 * (a j * (8⁻¹ * (Real.log 2)⁻¹) - a i * (8⁻¹ * (Real.log 2)⁻¹)) = a j * 8⁻¹ - a i * 8⁻¹
    field_simp
  · rw [tR, max_eq_right bot_le, ← EReal.coe_sub, Ideal.exp_coe]

/-- Two weighted sums, each divided by its weights' sum, and their difference as one sum. -/
theorem two_maps (p0 p1 v : Fin 2304 → ℝ) (l : ℝ) (h0 : ∀ j, 0 < p0 j) (h1 : ∀ j, 0 < p1 j) :
    (∑ j, (p0 j : EReal) * (v j : EReal)) * Ideal.div 1 (∑ j, (p0 j : EReal)) -
      (∑ j, (p1 j : EReal) * (v j : EReal)) * ((l : EReal) * Ideal.div 1 (∑ j, (p1 j : EReal))) =
    ∑ j, (Ideal.div (p0 j : EReal) (∑ i, (p0 i : EReal)) - (l : EReal) * Ideal.div (p1 j : EReal) (∑ i, (p1 i : EReal))) * (v j : EReal) := by
  have hP : 0 < ∑ j, p0 j := Finset.sum_pos (fun j _ => h0 j) ⟨0, Finset.mem_univ _⟩
  have hQ : 0 < ∑ j, p1 j := Finset.sum_pos (fun j _ => h1 j) ⟨0, Finset.mem_univ _⟩
  rw [← coe_sum, ← coe_sum]
  simp only [Ideal.div_coe hP.ne', Ideal.div_coe hQ.ne', one_mul, ← EReal.coe_mul, ← EReal.coe_sub, ← coe_sum]
  congr 1
  rw [Finset.sum_mul, Finset.sum_mul, ← Finset.sum_sub_distrib]
  exact Finset.sum_congr rfl fun j _ => by ring

/-- The score of a row whose upper half is cleared. -/
theorem score_low (q : Fin 128 → EReal) (K : Fin 2304 → Fin 128 → EReal) (j : Fin 2304) :
    score (low q) K j = ∑ e, q (half 0 e) * K j (half 0 e) := by
  rw [score, sum_halves]
  simp only [low, half0_lt, half1_ge, if_true, if_false, zero_mul, Finset.sum_const_zero, add_zero]
/-- The score of a row whose lower half is cleared. -/
theorem score_high (q : Fin 128 → EReal) (K : Fin 2304 → Fin 128 → EReal) (j : Fin 2304) :
    score (high q) K j = ∑ e, q (half 1 e) * K j (half 1 e) := by
  rw [score, sum_halves]
  simp only [high, half0_lt, half1_ge, if_true, if_false, zero_mul, Finset.sum_const_zero, zero_add]

/-- The kernel's differential attention is the plain one, when queries, keys, values and lambda are finite. -/
theorem attendD_eq (l : EReal) (q : Fin 128 → EReal) (K V : Fin 2304 → Fin 128 → EReal) (qH : Fin 2 → Fin 64 → EReal)
    (KH : Fin 2 → Fin 2304 → Fin 64 → EReal) (hq : ∀ m e, q (half m e) = qH m e * (scaleD : EReal))
    (hK : ∀ m j e, K j (half m e) = KH m j e) (rl : Real' l) (rq : ∀ m e, Real' (qH m e)) (rK : ∀ m j e, Real' (KH m j e))
    (rV : ∀ j d, Real' (V j d)) (d : Fin 128) : attendD l q K V d = attendH l qH KH V d := by
  obtain ⟨l, rfl⟩ := rl
  choose qr hqr using rq
  choose kr hkr using rK
  choose vr hvr using rV
  have hR : ∀ m j, scoreH (qH m) (KH m) j = (((∑ e, qr m e * kr m j e) * 8⁻¹ : ℝ) : EReal) := fun m j => by
    rw [scoreH, eighth_eq, EReal.coe_mul, coe_sum]
    refine congrArg (· * ((8⁻¹ : ℝ) : EReal)) (Finset.sum_congr rfl fun e _ => ?_)
    rw [hqr, hkr, EReal.coe_mul]
  have hS : ∀ m j, (∑ e, q (half m e) * K j (half m e)) = (((∑ e, qr m e * kr m j e) * scaleD : ℝ) : EReal) := fun m j => by
    rw [Finset.sum_mul, coe_sum]
    refine Finset.sum_congr rfl fun e _ => ?_
    rw [hq, hK, hqr, hkr, ← EReal.coe_mul, ← EReal.coe_mul, mul_right_comm]
  have h0 : score (low q) K = fun j => (((∑ e, qr 0 e * kr 0 j e) * scaleD : ℝ) : EReal) :=
    funext fun j => (score_low q K j).trans (hS 0 j)
  have h1 : score (high q) K = fun j => (((∑ e, qr 1 e * kr 1 j e) * scaleD : ℝ) : EReal) :=
    funext fun j => (score_high q K j).trans (hS 1 j)
  obtain ⟨p0, pos0, a0, b0⟩ := soft_eq fun j => ∑ e, qr 0 e * kr 0 j e
  obtain ⟨p1, pos1, a1, b1⟩ := soft_eq fun j => ∑ e, qr 1 e * kr 1 j e
  have e0 : ∀ j, part (low q) K j = (p0 j : EReal) := fun j => by rw [part, h0]; exact a0 j
  have e1 : ∀ j, part (high q) K j = (p1 j : EReal) := fun j => by rw [part, h1]; exact a1 j
  have f0 : ∀ j, expH (qH 0) (KH 0) j = (p0 j : EReal) := fun j => by rw [expH, funext (hR 0)]; exact b0 j
  have f1 : ∀ j, expH (qH 1) (KH 1) j = (p1 j : EReal) := fun j => by rw [expH, funext (hR 1)]; exact b1 j
  simp only [attendD, attendH, wgtH, e0, e1, f0, f1, hvr]
  exact two_maps p0 p1 (fun j => vr j d) l pos0 pos1

end Cert.Diff
-- ==== Proof.DBlock.lean ====
module
public import proofs.«01_k».proof.Proof.Gen.Kernel5Ideal.Value
public import Idealize.ShloMosaic.Lib.Pipeline.ValueKit
public import Idealize.ShloMosaic.Lib.Pipeline.ReadBack
public import Idealize.ShloMosaic.Lib.Pointwise
public import proofs.«01_k».proof.Proof.DSoft
@[expose] public section
set_option maxRecDepth 16384
noncomputable section
open Idealize.ShloMosaic Idealize.ShloMosaic.TcCoe Idealize.SL.Sem
open Idealize.ShloMosaic.Pipeline (Dat)
namespace Cert.Kernel5Ideal.Diff
open Cert.Kernel5Ideal Cert.Kernel5Ideal.Gen Cert.Attn Cert.Diff
variable (m : (ℓ : Loc nD τ sig) → Buf (Elt Ideal) ℓ)

/-- The parity test of a lane, read as a condition on its number. -/
theorem select_parity {A : Type} (d : Fin 128) (x y : A) :
    Scalar.select (IntOp.cmpi CmpIPredicate.eq (IntOp.andi (BitVec.ofNat 32 d.val) 1#32) 0#32) x y =
      if d.val % 2 = 0 then x else y := by
  have h : IntOp.cmpi CmpIPredicate.eq (IntOp.andi (BitVec.ofNat 32 d.val) 1#32) 0#32 = if d.val % 2 = 0 then 1#1 else 0#1 := by
    revert d; decide +kernel
  rw [h]; split <;> rfl

/-- The test for the lower half of a head, read as a condition on the lane's number. -/
theorem select_half {A : Type} (d : Fin 128) (x y : A) :
    Scalar.select (IntOp.cmpi CmpIPredicate.slt (BitVec.ofNat 32 d.val) 64#32) x y = if d.val < 64 then x else y := by
  have h : IntOp.cmpi CmpIPredicate.slt (BitVec.ofNat 32 d.val) 64#32 = if d.val < 64 then 1#1 else 0#1 := by
    revert d; decide +kernel
  rw [h]; split <;> rfl

/-- The same, of a lane given by its number. -/
theorem select_half' {A : Type} (n : ℕ) (hn : n < 128) (x y : A) :
    Scalar.select (IntOp.cmpi CmpIPredicate.slt (BitVec.ofNat 32 n) 64#32) x y = if n < 64 then x else y := select_half ⟨n, hn⟩ x y

/-- The score scale, named in the kernel. -/
abbrev dscale : EReal := Named.named (F := Ideal) κ "diff_scale" (φ := FTy.f32) 0x3E38AA3B#32

/-- The literal a maximum starts from is the least number. -/
theorem ofBits_bot : Ideal.ofBits FTy.f32 0xFF800000#32 = ⊥ := by
  simp [Ideal.ofBits, Ideal.ieee]

/-- What one row of a block of the result holds, from the keys and values of its scratches, the parameters of lambda, the
head's query block, the tables' rows and the gains. -/
def blockOut (K V : Vec Ideal S2304x128 .bf16) (L : Vec Ideal S4x64 .f32) (X : Vec Ideal S1x1024x128 .f32) (c s : Vec Ideal S1024x128 .f32)
    (g o : Vec Ideal S1x128 .f32) (r : Fin 1024) (d : Fin 128) : EReal :=
  rms (attendD (lamOf (fun e => L (ix2 0 e)) (fun e => L (ix2 1 e)) (fun e => L (ix2 2 e)) (fun e => L (ix2 3 e)))
    (fun e => rot (rmsH (fun e => X (ix3 0 r e)) fun e => g (ix2 0 e)) (fun e => c (ix2 r e)) (fun e => s (ix2 r e)) e * dscale)
    (fun j e => K (ix2 j e)) (fun j e => V (ix2 j e))) (fun e => o (ix2 0 e)) d * lam1

/-- What the key scratch holds: the context's normalised keys, then the latent ones, normalised and rotated. -/
def kScr (x4 : Vec Ideal S1x256x128 .f32) (x6 : Vec Ideal S1x2048x128 .f32) (c s : Vec Ideal S2048x128 .f32)
    (g : Vec Ideal S1x128 .f32) (y : S2304x128.Idx) : EReal :=
  if h : (y 0).val < 256 then rmsH (fun e => x4 (ix3 0 ⟨(y 0).val, h⟩ e)) (fun e => g (ix2 0 e)) (y 1)
  else rot (rmsH (fun e => x6 (ix3 0 ⟨(y 0).val - 256, by have : (y 0).val < 2304 := (y 0).isLt; omega⟩ e)) fun e => g (ix2 0 e))
    (fun e => c (ix2 ⟨(y 0).val - 256, by have : (y 0).val < 2304 := (y 0).isLt; omega⟩ e))
    (fun e => s (ix2 ⟨(y 0).val - 256, by have : (y 0).val < 2304 := (y 0).isLt; omega⟩ e)) (y 1)

/-- What the value scratch holds: the context's values, then the latent ones. -/
def vScr (x5 : Vec Ideal S1x256x128 .f32) (x7 : Vec Ideal S1x2048x128 .f32) (y : S2304x128.Idx) : EReal :=
  if h : (y 0).val < 256 then x5 (ix3 0 ⟨(y 0).val, h⟩ (y 1))
  else x7 (ix3 0 ⟨(y 0).val - 256, by have : (y 0).val < 2304 := (y 0).isLt; omega⟩ (y 1))

set_option maxHeartbeats 4000000 in
/-- The key scratch after an even point. -/
theorem scrK (c : Dev nD) (t : Fin cfg0.N) (h : t.val % 2 = 0) :
    (outsAt0 m c t.val t.isLt).2.1 = kScr (iblk m c 2 t) (iblk m c 4 t) (iblk m c 8 t) (iblk m c 9 t) (iblk m c 11 t) := by
  funext y
  rw [outsAt0_A m c t h]
  frame_out
  clear h
  generalize iblk m c 2 t = x4
  generalize iblk m c 4 t = x6
  generalize iblk m c 8 t = C
  generalize iblk m c 9 t = S
  generalize iblk m c 11 t = g
  canon_tiles x h using (View.cover_of_tiledBy (s := S2304x128) _ ![256, 128] (by sl_kernel_rfl) y)
  case piece0 =>
    have e0 : ∀ h, (⟨(y 0).val - 256, h⟩ : Fin 2048) = x 0 := fun h => Fin.ext (by show (y 0).val - 256 = (x 0).val; omega)
    have e1 : y 1 = x 1 := Fin.ext h1
    have en : ¬ (y 0).val < 256 := by omega
    idx_vars x
    simp only [kScr, dif_neg en, e0, e1]
    open_payloads
    pointwise [kScr, rmsH, lowSum, rot, select_parity, select_half]
    simp (disch := omega) only [select_half']
    try rfl
  case piece1 =>
    have e0 : ∀ h, (⟨(y 0).val, h⟩ : Fin 256) = x 0 := fun h => Fin.ext h0
    have e1 : y 1 = x 1 := Fin.ext h1
    have en : (y 0).val < 256 := by omega
    idx_vars x
    simp only [kScr, dif_pos en, e0, e1]
    open_payloads
    pointwise [kScr, rmsH, lowSum, rot, select_parity, select_half]
    try rfl

/-- The value scratch after an even point. -/
theorem scrV (c : Dev nD) (t : Fin cfg0.N) (h : t.val % 2 = 0) :
    (outsAt0 m c t.val t.isLt).2.2 = vScr (iblk m c 3 t) (iblk m c 5 t) := by
  funext y
  rw [outsAt0_A m c t h]
  frame_out
  clear h
  generalize iblk m c 3 t = x5
  generalize iblk m c 5 t = x7
  canon_tiles x h using (View.cover_of_tiledBy (s := S2304x128) _ ![256, 128] (by sl_kernel_rfl) y)
  case piece0 =>
    have e0 : ∀ h, (⟨(y 0).val - 256, h⟩ : Fin 2048) = x 0 := fun h => Fin.ext (by show (y 0).val - 256 = (x 0).val; omega)
    have e1 : y 1 = x 1 := Fin.ext h1
    have en : ¬ (y 0).val < 256 := by omega
    idx_vars x
    simp only [vScr, dif_neg en, e0, e1]
    open_payloads
    pointwise [vScr]
    try rfl
  case piece1 =>
    have e0 : ∀ h, (⟨(y 0).val, h⟩ : Fin 256) = x 0 := fun h => Fin.ext h0
    have e1 : y 1 = x 1 := Fin.ext h1
    have en : (y 0).val < 256 := by omega
    idx_vars x
    simp only [vScr, dif_pos en, e0, e1]
    open_payloads
    pointwise [vScr]
    try rfl

/-- A load of the whole scratch gives what its stores left. -/
theorem readWhole {κ : Kind} {sp : Space} (v : View sig κ sp S2304x128 .bf16)
    (L : List (View.Piece (Elt Ideal) S2304x128 .bf16)) (G : S2304x128.Idx → EReal)
    (inb : ∀ a, (![0, 0] : Fin S2304x128.rank → ℕ) a + (![2304, 128] : Fin S2304x128.rank → ℕ) a ≤ S2304x128.size a)
    (h : View.canon L = G) :
    v.readCov L (Rect.unit ![0, 0] ![2304, 128] inb).toLoadRect = G := by
  rw [View.readCov_eq_canon', h]
  funext j
  congr 1
  funext a
  apply Fin.ext
  fin_cases a
  all_goals simp [LoadRect.idx, Rect.toLoadRect, Rect.unit]

end Cert.Kernel5Ideal.Diff
-- ==== Proof.DBlks.lean ====
module
public import proofs.«01_k».proof.Proof.Gen.Kernel5Ideal.Value
public import Idealize.ShloMosaic.Lib.Pipeline.ValueKit
public import Idealize.ShloMosaic.Lib.Pipeline.ReadBack
public import Idealize.ShloMosaic.Lib.Pointwise
public import proofs.«01_k».proof.Proof.DBlock
@[expose] public section
set_option maxRecDepth 16384
noncomputable section
open Idealize.ShloMosaic Idealize.ShloMosaic.TcCoe Idealize.SL.Sem
open Idealize.ShloMosaic.Pipeline (Dat)
namespace Cert.Kernel5Ideal.Diff
open Cert.Kernel5Ideal Cert.Kernel5Ideal.Gen Cert.Attn
variable (m : (ℓ : Loc nD τ sig) → Buf (Elt Ideal) ℓ)

/-- Every window's block, by grid point: the batch, the head and the half of the queries. -/
theorem idx : ∀ t : Fin cfg0.N,
    win0_0.index t = ![0, 0] ∧
    win0_1.index t = ![t.val / 8, t.val % 2, t.val / 2 % 4] ∧
    win0_2.index t = ![t.val / 8, 0, 18 + t.val / 2 % 4] ∧
    win0_3.index t = ![t.val / 8, 0, 22 + t.val / 2 % 4] ∧
    win0_4.index t = ![t.val / 8, 0, 18 + t.val / 2 % 4] ∧
    win0_5.index t = ![t.val / 8, 0, 22 + t.val / 2 % 4] ∧
    win0_6.index t = ![t.val % 2, 0] ∧ win0_7.index t = ![t.val % 2, 0] ∧
    win0_8.index t = ![0, 0] ∧ win0_9.index t = ![0, 0] ∧ win0_10.index t = ![0, 0] ∧ win0_11.index t = ![0, 0] ∧
    win0_12.index t = ![0, 0] ∧
    win0_13.index t = ![t.val / 8, t.val % 2, t.val / 2 % 4] :=
  (by decide +kernel : ∀ t : Fin grid0.N, _)

/-- The number of grid points. -/
theorem lt64 (t : Fin cfg0.N) : t.val < 64 := lt_of_lt_of_eq t.isLt N_0

/-- The batch of a point. -/
abbrev bOf (t : Fin cfg0.N) : Fin 8 := ⟨t.val / 8, by have := lt64 t; omega⟩
/-- The head of a point. -/
abbrev hOf (t : Fin cfg0.N) : Fin 4 := ⟨t.val / 2 % 4, by omega⟩
/-- A query row of a point, as a token. -/
abbrev rowOf (t : Fin cfg0.N) (r : Fin 1024) : Fin 2048 := ⟨t.val % 2 * 1024 + r.val, by omega⟩

variable (c : Dev nD) (t : Fin cfg0.N)

/-- The parameters of lambda. -/
theorem lp_blk (r : Fin 4) (e : Fin 64) : (iblk m c 0 t (ix2 r e) : EReal) = m (c, Proc.tc.devRef main_arg4) (ix2 r e) := by
  blk_ext [iblk, V, idx t]
/-- The query block. -/
theorem q_blk (r : Fin 1024) (e : Fin 128) : (iblk m c 1 t (ix3 0 r e) : EReal) =
    m (c, Proc.tc.devRef main_arg0) (ix3 (bOf t) (rowOf t r) ⟨(hOf t).val * 128 + e.val, by have := (hOf t).isLt; omega⟩) := by
  blk_ext [iblk, V, idx t]
/-- The context's key block. -/
theorem kc_blk (r : Fin 256) (e : Fin 128) : (iblk m c 2 t (ix3 0 r e) : EReal) =
    m (c, Proc.tc.devRef main_arg1) (ix3 (bOf t) r ⟨2304 + ((hOf t).val * 128 + e.val), by have := (hOf t).isLt; omega⟩) := by
  blk_ext [iblk, V, idx t]
/-- The context's value block. -/
theorem vc_blk (r : Fin 256) (e : Fin 128) : (iblk m c 3 t (ix3 0 r e) : EReal) =
    m (c, Proc.tc.devRef main_arg1) (ix3 (bOf t) r ⟨2816 + ((hOf t).val * 128 + e.val), by have := (hOf t).isLt; omega⟩) := by
  blk_ext [iblk, V, idx t]
/-- The latent key block. -/
theorem kl_blk (r : Fin 2048) (e : Fin 128) : (iblk m c 4 t (ix3 0 r e) : EReal) =
    m (c, Proc.tc.devRef main_arg0) (ix3 (bOf t) r ⟨2304 + ((hOf t).val * 128 + e.val), by have := (hOf t).isLt; omega⟩) := by
  blk_ext [iblk, V, idx t]
/-- The latent value block. -/
theorem vl_blk (r : Fin 2048) (e : Fin 128) : (iblk m c 5 t (ix3 0 r e) : EReal) =
    m (c, Proc.tc.devRef main_arg0) (ix3 (bOf t) r ⟨2816 + ((hOf t).val * 128 + e.val), by have := (hOf t).isLt; omega⟩) := by
  blk_ext [iblk, V, idx t]
/-- The cosines of the point's tokens. -/
theorem cq_blk (r : Fin 1024) (e : Fin 128) : (iblk m c 6 t (ix2 r e) : EReal) = V m c main_v40 (ix2 (rowOf t r) e) := by
  blk_ext [iblk, idx t]
/-- The signed sines of the point's tokens. -/
theorem sq_blk (r : Fin 1024) (e : Fin 128) : (iblk m c 7 t (ix2 r e) : EReal) = V m c main_v43 (ix2 (rowOf t r) e) := by
  blk_ext [iblk, idx t]
/-- The cosines of every token. -/
theorem ck_blk (r : Fin 2048) (e : Fin 128) : (iblk m c 8 t (ix2 r e) : EReal) = V m c main_v40 (ix2 r e) := by
  blk_ext [iblk, idx t]
/-- The signed sines of every token. -/
theorem sk_blk (r : Fin 2048) (e : Fin 128) : (iblk m c 9 t (ix2 r e) : EReal) = V m c main_v43 (ix2 r e) := by
  blk_ext [iblk, idx t]
/-- The query gain. -/
theorem gq_blk (e : Fin 128) : (iblk m c 10 t (ix2 0 e) : EReal) = V m c main_v47 (ix2 0 e) := by
  blk_ext [iblk, idx t]
/-- The key gain. -/
theorem gk_blk (e : Fin 128) : (iblk m c 11 t (ix2 0 e) : EReal) = V m c main_v51 (ix2 0 e) := by
  blk_ext [iblk, idx t]
/-- The result's gain. -/
theorem go_blk (e : Fin 128) : (iblk m c 12 t (ix2 0 e) : EReal) = V m c main_v52 (ix2 0 e) := by
  blk_ext [iblk, idx t]

end Cert.Kernel5Ideal.Diff
-- ==== Proof.DBlockA.lean ====
module
public import proofs.«01_k».proof.Proof.Gen.Kernel5Ideal.Value
public import Idealize.ShloMosaic.Lib.Pipeline.ValueKit
public import Idealize.ShloMosaic.Lib.Pipeline.ReadBack
public import Idealize.ShloMosaic.Lib.Pointwise
public import proofs.«01_k».proof.Proof.DBlock
@[expose] public section
set_option maxRecDepth 16384
noncomputable section
open Idealize.ShloMosaic Idealize.ShloMosaic.TcCoe Idealize.SL.Sem
open Idealize.ShloMosaic.Pipeline (Dat)
namespace Cert.Kernel5Ideal.Diff
open Cert.Kernel5Ideal Cert.Kernel5Ideal.Gen Cert.Attn Cert.Diff
variable (m : (ℓ : Loc nD τ sig) → Buf (Elt Ideal) ℓ)

set_option maxHeartbeats 16000000 in
/-- One even point's block, from the scratches the point has just filled. -/
theorem blockA (c : Dev nD) (t : Fin cfg0.N) (h : t.val % 2 = 0) (y : S1x1024x128.Idx) :
    (outsAt0 m c t.val t.isLt).1 y =
      blockOut (outsAt0 m c t.val t.isLt).2.1 (outsAt0 m c t.val t.isLt).2.2
        (iblk m c 0 t) (iblk m c 1 t) (iblk m c 6 t) (iblk m c 7 t) (iblk m c 10 t) (iblk m c 12 t) (y 1) (y 2) := by
  generalize hK : (outsAt0 m c t.val t.isLt).2.1 = K
  generalize hV : (outsAt0 m c t.val t.isLt).2.2 = V
  rw [outsAt0_A m c t h] at hK hV ⊢
  frame_out at hK
  frame_out at hV
  frame_out
  simp only [readWhole _ _ _ _ hK, readWhole _ _ _ _ hV]
  clear hK hV h
  generalize iblk m c 0 t = L
  generalize iblk m c 1 t = X
  generalize iblk m c 6 t = C
  generalize iblk m c 7 t = S
  generalize iblk m c 10 t = g
  generalize iblk m c 12 t = o
  canon_tiles x h
  all_goals
    have e2 : y 2 = x 2 := Fin.ext h2
    simp only [e2]
    open_payloads
    pointwise [blockOut, attendD, part, low, high, lamOf, score, top, rms, rmsH, lowSum, rot, select_parity, select_half, ofBits_bot]
    simp (maxSteps := 100000000) only [← h1, Fin.eta]
    simp (maxSteps := 100000000) (disch := omega) only [select_half']
    rfl

end Cert.Kernel5Ideal.Diff
-- ==== Proof.DBlockB.lean ====
module
public import proofs.«01_k».proof.Proof.Gen.Kernel5Ideal.Value
public import Idealize.ShloMosaic.Lib.Pipeline.ValueKit
public import Idealize.ShloMosaic.Lib.Pipeline.ReadBack
public import Idealize.ShloMosaic.Lib.Pointwise
public import proofs.«01_k».proof.Proof.DBlock
@[expose] public section
set_option maxRecDepth 16384
noncomputable section
open Idealize.ShloMosaic Idealize.ShloMosaic.TcCoe Idealize.SL.Sem
open Idealize.ShloMosaic.Pipeline (Dat)
namespace Cert.Kernel5Ideal.Diff
open Cert.Kernel5Ideal Cert.Kernel5Ideal.Gen Cert.Attn Cert.Diff
variable (m : (ℓ : Loc nD τ sig) → Buf (Elt Ideal) ℓ)

set_option maxHeartbeats 16000000 in
/-- One odd point's block, from the scratches the point before left. -/
theorem blockB (c : Dev nD) (t : Fin cfg0.N) (h : ¬ t.val % 2 = 0) (y : S1x1024x128.Idx) :
    (outsAt0 m c t.val t.isLt).1 y =
      blockOut (outsAt0 m c (t.val - 1) (Nat.lt_of_le_of_lt (Nat.sub_le _ _) t.isLt)).2.1
        (outsAt0 m c (t.val - 1) (Nat.lt_of_le_of_lt (Nat.sub_le _ _) t.isLt)).2.2
        (iblk m c 0 t) (iblk m c 1 t) (iblk m c 6 t) (iblk m c 7 t) (iblk m c 10 t) (iblk m c 12 t) (y 1) (y 2) := by
  rw [outsAt0_B m c t h]
  frame_out
  clear h
  simp only [read_unread_whole]
  generalize (outsAt0 m c (t.val - 1) (Nat.lt_of_le_of_lt (Nat.sub_le _ _) t.isLt)).2.1 = K
  generalize (outsAt0 m c (t.val - 1) (Nat.lt_of_le_of_lt (Nat.sub_le _ _) t.isLt)).2.2 = V
  generalize iblk m c 0 t = L
  generalize iblk m c 1 t = X
  generalize iblk m c 6 t = C
  generalize iblk m c 7 t = S
  generalize iblk m c 10 t = g
  generalize iblk m c 12 t = o
  canon_tiles x h
  all_goals
    have e2 : y 2 = x 2 := Fin.ext h2
    simp only [e2]
    open_payloads
    pointwise [blockOut, attendD, part, low, high, lamOf, score, top, rms, rmsH, lowSum, rot, select_parity, select_half, ofBits_bot]
    simp (maxSteps := 100000000) only [← h1, Fin.eta]
    simp (maxSteps := 100000000) (disch := omega) only [select_half']
    rfl

end Cert.Kernel5Ideal.Diff
-- ==== Proof.DTables.lean ====
module
public import proofs.«01_k».proof.Proof.Gen.Kernel5Ideal.Value
public import Idealize.ShloMosaic.Lib.Pipeline.ValueKit
public import Idealize.ShloMosaic.Lib.Pipeline.ReadBack
public import Idealize.ShloMosaic.Lib.Pointwise
public import proofs.«01_k».proof.Proof.DSoft
public import proofs.«01_k».proof.Proof.Gen.Reference5Ideal.Read
public import Idealize.ShloMosaic.Lib.StableHlo.ReadAt
@[expose] public section
set_option maxRecDepth 16384
noncomputable section
open Idealize.ShloMosaic Idealize.ShloMosaic.TcCoe Idealize.SL.Sem
open Idealize.ShloMosaic.Pipeline (Dat)
namespace Cert.Kernel5Ideal.Diff
open Cert.Kernel5Ideal Cert.Kernel5Ideal.Gen Cert.Attn
variable (m : (ℓ : Loc nD τ sig) → Buf (Elt Ideal) ℓ)

set_option maxHeartbeats 2000000 in
/-- The angles of the kernel's host code are the reference's. -/
theorem V25 (c : Dev nD) : V m c main_v25 = Cert.Reference5Ideal.Read.val_main_v41 (F := Ideal) := by
  unfold V
  rfl

set_option maxHeartbeats 2000000 in
/-- The cosine table: each lane the cosine of its pair's angle. -/
theorem V40 (c : Dev nD) (t : Fin 2048) (d : Fin 128) : (V m c main_v40 (ix2 t d) : EReal) =
    Ideal.cos (V m c main_v25 (ix2 t ⟨d.val % 64 / 2, by omega⟩)) := by
  unfold V
  after_reads_at
  after_reads_at

/-- The sign literal of a lane: minus one on even lanes, one on odd lanes. -/
theorem sign_at (k : Fin 2) : Ideal.ofBits FTy.f32 (lit0 (S2.rowMajor (ix1 k))) = if k.val = 0 then (-1 : EReal) else 1 := by
  fin_cases k
  · rw [show lit0 (S2.rowMajor (ix1 (⟨0, by decide⟩ : Fin 2))) = 0xBF800000#32 from by rfl]
    simp [Ideal.ofBits, Ideal.ieee, -EReal.coe_mul]; norm_num
  · rw [show lit0 (S2.rowMajor (ix1 (⟨1, by decide⟩ : Fin 2))) = 0x3F800000#32 from by rfl]
    simp [Ideal.ofBits, Ideal.ieee, -EReal.coe_mul]; norm_num

set_option maxHeartbeats 2000000 in
/-- The sine table: each lane the sine of its pair's angle, negated on even lanes. -/
theorem V43 (c : Dev nD) (t : Fin 2048) (d : Fin 128) : (V m c main_v43 (ix2 t d) : EReal) =
    Ideal.sin (V m c main_v25 (ix2 t ⟨d.val % 64 / 2, by omega⟩)) * Ideal.ofBits FTy.f32 (lit0 (S2.rowMajor (ix1 ⟨d.val % 64 % 2, by omega⟩))) := by
  unfold V
  after_reads_at
  after_reads_at

/-- The query gain, as a row: a half's gain twice. -/
theorem V47 (c : Dev nD) (d : Fin 128) : (V m c main_v47 (ix2 0 d) : EReal) = m (c, Proc.tc.devRef main_arg2) (ix1 ⟨d.val % 64, by omega⟩) := by
  unfold V
  after_reads_at

/-- The key gain, as a row: a half's gain twice. -/
theorem V51 (c : Dev nD) (d : Fin 128) : (V m c main_v51 (ix2 0 d) : EReal) = m (c, Proc.tc.devRef main_arg3) (ix1 ⟨d.val % 64, by omega⟩) := by
  unfold V
  after_reads_at

/-- The result's gain, as a row. -/
theorem V52 (c : Dev nD) (d : Fin 128) : (V m c main_v52 (ix2 0 d) : EReal) = m (c, Proc.tc.devRef main_arg5) (ix1 d) := by
  unfold V
  after_reads_at

end Cert.Kernel5Ideal.Diff
-- ==== Proof.DAngle.lean ====
module
public import proofs.«01_k».proof.Proof.DSoft
public import proofs.«01_k».proof.Proof.Gen.Reference5Ideal.Read
public import Idealize.ShloMosaic.Lib.Pointwise
@[expose] public section
set_option maxRecDepth 16384
noncomputable section
open Idealize.ShloMosaic Idealize.ShloMosaic.TcCoe Idealize.SL.Sem
namespace Cert.Reference5Ideal.Diff
open Cert.Reference5Ideal Cert.Reference5Ideal.Gen Cert.Reference5Ideal.Read Cert.Attn

/-- An integer's float times a power of ten thousand is finite. -/
theorem pow_real (n k : BitVec 32) : Real' ((FloatOps.sitofp (F := Ideal) FTy.f32 n : EReal) *
    Ideal.pow (Ideal.ofBits FTy.f32 0x461C4000#32)
      (Ideal.div (-(Ideal.ofBits FTy.f32 0x40000000#32 * FloatOps.sitofp (F := Ideal) FTy.f32 k)) (Ideal.ofBits FTy.f32 0x42000000#32))) := by
  have h1 : Ideal.ofBits FTy.f32 0x461C4000#32 = ((10000 : ℝ) : EReal) := by
    simp [Ideal.ofBits, Ideal.ieee, -EReal.coe_mul]; norm_num
  have h2 : Ideal.ofBits FTy.f32 0x40000000#32 = ((2 : ℝ) : EReal) := by
    simp [Ideal.ofBits, Ideal.ieee, -EReal.coe_mul]; norm_num
  have h3 : Ideal.ofBits FTy.f32 0x42000000#32 = ((32 : ℝ) : EReal) := by
    simp [Ideal.ofBits, Ideal.ieee, -EReal.coe_mul]; norm_num
  rw [h1, h2, h3, Ideal.div_coe (by norm_num)]
  refine Real'.mul ⟨(n.toInt : ℝ), rfl⟩ ?_
  show Real' (Ideal.pow _ (-(((2 : ℝ) : EReal) * ((k.toInt : ℝ) : EReal)) * ((1 / 32 : ℝ) : EReal)))
  rw [← EReal.coe_mul, ← EReal.coe_neg, ← EReal.coe_mul, Ideal.pow_coe_coe]
  exact ⟨_, rfl⟩

/-- Every angle is finite. -/
theorem angle_real (t : Fin 2048) (i : Fin 32) : Real' (val_main_v41 (F := Ideal) (ix2 t i)) := by
  pointwise [val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_cst_3, val_main_cst_4, val_main_cst_5, val_main_cst_6]
  split <;> exact pow_real _ _
end Cert.Reference5Ideal.Diff
-- ==== Proof.DRef.lean ====
module
public import proofs.«01_k».proof.Proof.DSoft
public import proofs.«01_k».proof.Proof.Gen.Reference5Ideal.Read
public import Idealize.ShloMosaic.Lib.Pointwise
@[expose] public section
set_option maxRecDepth 16384
noncomputable section
open Idealize.ShloMosaic Idealize.ShloMosaic.TcCoe Idealize.SL.Sem
namespace Cert.Reference5Ideal.Diff
open Cert.Reference5Ideal Cert.Reference5Ideal.Gen Cert.Reference5Ideal.Read Cert.Attn Cert.Diff

variable (x0 : (⟨S8x2048x4608, .f32⟩ : BufTy).Contents (Elt Ideal)) (x1 : (⟨S8x256x4608, .f32⟩ : BufTy).Contents (Elt Ideal))
  (x2 x3 : (⟨S64, .f32⟩ : BufTy).Contents (Elt Ideal)) (x4 : (⟨S4x64, .f32⟩ : BufTy).Contents (Elt Ideal))
  (x5 : (⟨S128, .f32⟩ : BufTy).Contents (Elt Ideal))

/-- The literal a maximum starts from is the least number. -/
theorem ofBits_bot : Ideal.ofBits FTy.f32 0xFF800000#32 = ⊥ := by
  simp [Ideal.ofBits, Ideal.ieee]

/-- The angles, by token. -/
def angle (t : Fin 2048) (i : Fin 32) : EReal := val_main_v41 (F := Ideal) (ix2 t i)

/-- Lambda, of the four rows of parameters. -/
def lam : EReal := lamOf (fun e => x4 (ix2 0 e)) (fun e => x4 (ix2 1 e)) (fun e => x4 (ix2 2 e)) (fun e => x4 (ix2 3 e))

/-- Half a head's latent queries before the rotation. -/
def qN (b : Fin 8) (h : Fin 4) (g : Fin 2) (t : Fin 2048) : Fin 64 → EReal :=
  rms64 (fun e => x0 (ix3 b t ⟨h.val * 128 + g.val * 64 + e.val, by omega⟩)) fun e => x2 (ix1 e)

/-- Half a head's latent keys before the rotation. -/
def kN (b : Fin 8) (h : Fin 4) (g : Fin 2) (t : Fin 2048) : Fin 64 → EReal :=
  rms64 (fun e => x0 (ix3 b t ⟨2304 + (h.val * 128 + g.val * 64 + e.val), by omega⟩)) fun e => x3 (ix1 e)

/-- Half a head's keys: the context's, then the latent ones. -/
def keys (b : Fin 8) (h : Fin 4) (g : Fin 2) (j : Fin 2304) : Fin 64 → EReal :=
  if hj : j.val < 256 then rms64 (fun e => x1 (ix3 b ⟨j.val, hj⟩ ⟨2304 + (h.val * 128 + g.val * 64 + e.val), by omega⟩)) fun e => x3 (ix1 e)
  else rotH (kN x0 x3 b h g ⟨j.val - 256, by omega⟩) (angle ⟨j.val - 256, by omega⟩)

/-- A head's values: the context's, then the latent ones. -/
def values (b : Fin 8) (h : Fin 4) (j : Fin 2304) (d : Fin 128) : EReal :=
  if hj : j.val < 256 then x1 (ix3 b ⟨j.val, hj⟩ ⟨2816 + (h.val * 128 + d.val), by omega⟩)
  else x0 (ix3 b ⟨j.val - 256, by omega⟩ ⟨2816 + (h.val * 128 + d.val), by omega⟩)

/-- Lambda, at its one index. -/
theorem lam_at (i : S_.Idx) : val_main_v15 (F := Ideal) x4 i = lam x4 := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_cst, val_main_cst_0, val_main_cst_1, lam, lamOf]

/-- The normalised queries, at an index. -/
theorem q_at (b : Fin 8) (h : Fin 4) (g : Fin 2) (t : Fin 2048) (d : Fin 64) :
    val_main_v59 (F := Ideal) x0 x2 (ix5 b h g t d) = qN x0 x2 b h g t d := by
  pointwise [val_main_v44, val_main_v45, val_main_v46, val_main_v47, val_main_v48, val_main_v49, val_main_v50, val_main_v51, val_main_v52, val_main_v53, val_main_v54, val_main_v55, val_main_v56, val_main_v57, val_main_v58, val_main_v59, val_main_cst_7, val_main_cst_8, val_main_cst_9, qN, rms64]

/-- The normalised latent keys, at an index. -/
theorem kl_at (b : Fin 8) (h : Fin 4) (g : Fin 2) (t : Fin 2048) (d : Fin 64) :
    val_main_v95 (F := Ideal) x0 x3 (ix5 b h g t d) = kN x0 x3 b h g t d := by
  pointwise [val_main_v80, val_main_v81, val_main_v82, val_main_v83, val_main_v84, val_main_v85, val_main_v86, val_main_v87, val_main_v88, val_main_v89, val_main_v90, val_main_v91, val_main_v92, val_main_v93, val_main_v94, val_main_v95, val_main_cst_10, val_main_cst_11, val_main_cst_12, kN, rms64]

/-- The normalised context keys, at an index. -/
theorem kc_at (b : Fin 8) (h : Fin 4) (g : Fin 2) (t : Fin 256) (d : Fin 64) :
    val_main_v134 (F := Ideal) x1 x3 (ix5 b h g t d) =
      rms64 (fun e => x1 (ix3 b t ⟨2304 + (h.val * 128 + g.val * 64 + e.val), by omega⟩)) (fun e => x3 (ix1 e)) d := by
  pointwise [val_main_v119, val_main_v120, val_main_v121, val_main_v122, val_main_v123, val_main_v124, val_main_v125, val_main_v126, val_main_v127, val_main_v128, val_main_v129, val_main_v130, val_main_v131, val_main_v132, val_main_v133, val_main_v134, val_main_cst_13, val_main_cst_14, val_main_cst_15, rms64]

/-- The rotated queries, at an index. -/
theorem qr_at (b : Fin 8) (h : Fin 4) (g : Fin 2) (t : Fin 2048) (d : Fin 64) :
    val_main_v79 (F := Ideal) x0 x2 (ix5 b h g t d) = rotH (qN x0 x2 b h g t) (angle t) d := by
  pointwise [val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v42, val_main_v43]
  simp only [q_at, rotH, angle]
  split_ifs <;> rfl

/-- The rotated latent keys, at an index. -/
theorem kr_at (b : Fin 8) (h : Fin 4) (g : Fin 2) (t : Fin 2048) (d : Fin 64) :
    val_main_v115 (F := Ideal) x0 x3 (ix5 b h g t d) = rotH (kN x0 x3 b h g t) (angle t) d := by
  pointwise [val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v42, val_main_v43]
  simp only [kl_at, rotH, angle]
  split_ifs <;> rfl

/-- The values, at an index. -/
theorem v_at (b : Fin 8) (h : Fin 4) (j : Fin 2304) (d : Fin 128) :
    val_main_v139 (F := Ideal) x0 x1 (ix4 b h j d) = values x0 x1 b h j d := by
  pointwise [val_main_v116, val_main_v117, val_main_v118, val_main_v135, val_main_v136, val_main_v137, val_main_v139, values]

/-- The keys, at an index. -/
theorem k_at (b : Fin 8) (h : Fin 4) (g : Fin 2) (j : Fin 2304) (d : Fin 64) :
    val_main_v138 (F := Ideal) x0 x1 x3 (ix5 b h g j d) = keys x0 x1 x3 b h g j d := by
  pointwise [val_main_v138]
  simp only [kc_at, kr_at, keys]
  split <;> rfl

/-- The rotated queries of one token. -/
def queries (b : Fin 8) (h : Fin 4) (g : Fin 2) (t : Fin 2048) : Fin 64 → EReal := rotH (qN x0 x2 b h g t) (angle t)

/-- The scores, at an index. -/
theorem s_at (b : Fin 8) (h : Fin 4) (g : Fin 2) (t : Fin 2048) (j : Fin 2304) :
    val_main_v142 (F := Ideal) x0 x1 x2 x3 (ix5 b h g t j) = scoreH (queries x0 x2 b h g t) (keys x0 x1 x3 b h g) j := by
  pointwise [val_main_v140, val_main_v141, val_main_v142, val_main_cst_16]
  simp only [qr_at, k_at, scoreH, queries]

end Cert.Reference5Ideal.Diff
-- ==== Proof.DRefB.lean ====
module
public import proofs.«01_k».proof.Proof.DSoft
public import proofs.«01_k».proof.Proof.Gen.Reference5Ideal.Read
public import Idealize.ShloMosaic.Lib.Pointwise
public import proofs.«01_k».proof.Proof.DRef
@[expose] public section
set_option maxRecDepth 16384
noncomputable section
open Idealize.ShloMosaic Idealize.ShloMosaic.TcCoe Idealize.SL.Sem
namespace Cert.Reference5Ideal.Diff
open Cert.Reference5Ideal Cert.Reference5Ideal.Gen Cert.Reference5Ideal.Read Cert.Attn Cert.Diff

variable (x0 : (⟨S8x2048x4608, .f32⟩ : BufTy).Contents (Elt Ideal)) (x1 : (⟨S8x256x4608, .f32⟩ : BufTy).Contents (Elt Ideal))
  (x2 x3 : (⟨S64, .f32⟩ : BufTy).Contents (Elt Ideal)) (x4 : (⟨S4x64, .f32⟩ : BufTy).Contents (Elt Ideal))
  (x5 : (⟨S128, .f32⟩ : BufTy).Contents (Elt Ideal))

/-- The host's maximum over the last axis, at an index. -/
theorem hostMax_at (f : FVec Ideal S8x4x2x2048x2304 .f32) (b : Fin 8) (h : Fin 4) (g : Fin 2) (t : Fin 2048) :
    (Host.reduce (FloatOps.maximumf (F := Ideal) (φ := .f32)) f (constant (F := Ideal) S_ .f32 0xFF800000#32) reducesTo_S8x4x2x2048x2304_S8x4x2x2048_d4 h_S_ (ix4 b h g t) : EReal) =
      top fun j => f (ix5 b h g t j) := by
  pointwise [top, ofBits_bot]

/-- The largest score, at an index. -/
theorem top_at (b : Fin 8) (h : Fin 4) (g : Fin 2) (t : Fin 2048) :
    val_main_v145 (F := Ideal) x0 x1 x2 x3 (ix4 b h g t) = max ⊥ (top (scoreH (queries x0 x2 b h g t) (keys x0 x1 x3 b h g))) := by
  rw [val_main_v145_apply, val_main_v144_apply, val_main_cst_18_apply]
  rw [val_main_v143, val_main_cst_17, hostMax_at]
  simp only [s_at]
  rw [Ideal.maximumf_def, Ideal.ofBits_def, ofBits_bot]

/-- The exponentials, at an index. -/
theorem e_at (b : Fin 8) (h : Fin 4) (g : Fin 2) (t : Fin 2048) (j : Fin 2304) :
    val_main_v149 (F := Ideal) x0 x1 x2 x3 (ix5 b h g t j) = expH (queries x0 x2 b h g t) (keys x0 x1 x3 b h g) j := by
  pointwise [val_main_v146, val_main_v147, val_main_v148, val_main_v149]
  simp only [s_at, top_at, expH]

/-- Their sum, at an index. -/
theorem sum_at (b : Fin 8) (h : Fin 4) (g : Fin 2) (t : Fin 2048) :
    val_main_v150 (F := Ideal) x0 x1 x2 x3 (ix4 b h g t) = ∑ j, expH (queries x0 x2 b h g t) (keys x0 x1 x3 b h g) j := by
  pointwise [val_main_v150, val_main_cst_19]
  simp only [e_at]

/-- The softmax weights, at an index. -/
theorem w_at (b : Fin 8) (h : Fin 4) (g : Fin 2) (t : Fin 2048) (j : Fin 2304) :
    val_main_v153 (F := Ideal) x0 x1 x2 x3 (ix5 b h g t j) = wgtH (queries x0 x2 b h g t) (keys x0 x1 x3 b h g) j := by
  pointwise [val_main_v151, val_main_v152, val_main_v153]
  simp only [e_at, sum_at, wgtH]

end Cert.Reference5Ideal.Diff
-- ==== Proof.DRefC.lean ====
module
public import proofs.«01_k».proof.Proof.DSoft
public import proofs.«01_k».proof.Proof.Gen.Reference5Ideal.Read
public import Idealize.ShloMosaic.Lib.Pointwise
public import proofs.«01_k».proof.Proof.DRefB
@[expose] public section
set_option maxRecDepth 16384
noncomputable section
open Idealize.ShloMosaic Idealize.ShloMosaic.TcCoe Idealize.SL.Sem
namespace Cert.Reference5Ideal.Diff
open Cert.Reference5Ideal Cert.Reference5Ideal.Gen Cert.Reference5Ideal.Read Cert.Attn Cert.Diff

variable (x0 : (⟨S8x2048x4608, .f32⟩ : BufTy).Contents (Elt Ideal)) (x1 : (⟨S8x256x4608, .f32⟩ : BufTy).Contents (Elt Ideal))
  (x2 x3 : (⟨S64, .f32⟩ : BufTy).Contents (Elt Ideal)) (x4 : (⟨S4x64, .f32⟩ : BufTy).Contents (Elt Ideal))
  (x5 : (⟨S128, .f32⟩ : BufTy).Contents (Elt Ideal))

/-- The first map of a pair, at an index. -/
theorem map0_at (y : FVec Ideal S8x4x2x2048x2304 .f32) (b : Fin 8) (h : Fin 4) (t : Fin 2048) (j : Fin 2304) :
    (shapeCast S8x4x2048x2304 (extractStridedSlice S8x4x1x2048x2304 ![0, 0, 0, 0, 0] y slices_S8x4x2x2048x2304_S8x4x1x2048x2304_0_0_0_0_0)
      shapeCasts_S8x4x1x2048x2304_S8x4x2048x2304 (ix4 b h t j) : EReal) = y (ix5 b h 0 t j) := by
  pointwise []

/-- The first map's weights, at an index. -/
theorem w0_at (b : Fin 8) (h : Fin 4) (t : Fin 2048) (j : Fin 2304) :
    val_main_v155 (F := Ideal) x0 x1 x2 x3 (ix4 b h t j) = wgtH (queries x0 x2 b h 0 t) (keys x0 x1 x3 b h 0) j := by
  rw [val_main_v155, val_main_v154, map0_at, w_at]

/-- The second map of a pair, at an index. -/
theorem map1_at (y : FVec Ideal S8x4x2x2048x2304 .f32) (b : Fin 8) (h : Fin 4) (t : Fin 2048) (j : Fin 2304) :
    (shapeCast S8x4x2048x2304 (extractStridedSlice S8x4x1x2048x2304 ![0, 0, 1, 0, 0] y slices_S8x4x2x2048x2304_S8x4x1x2048x2304_0_0_1_0_0)
      shapeCasts_S8x4x1x2048x2304_S8x4x2048x2304 (ix4 b h t j) : EReal) = y (ix5 b h 1 t j) := by
  pointwise []

/-- The second map's weights, at an index. -/
theorem w1_at (b : Fin 8) (h : Fin 4) (t : Fin 2048) (j : Fin 2304) :
    val_main_v157 (F := Ideal) x0 x1 x2 x3 (ix4 b h t j) = wgtH (queries x0 x2 b h 1 t) (keys x0 x1 x3 b h 1) j := by
  rw [val_main_v157, val_main_v156, map1_at, w_at]

/-- The difference of the maps, at an index. -/
theorem wd_at (b : Fin 8) (h : Fin 4) (t : Fin 2048) (j : Fin 2304) :
    val_main_v160 (F := Ideal) x0 x1 x2 x3 x4 (ix4 b h t j) =
      wgtH (queries x0 x2 b h 0 t) (keys x0 x1 x3 b h 0) j - lam x4 * wgtH (queries x0 x2 b h 1 t) (keys x0 x1 x3 b h 1) j := by
  rw [val_main_v160_apply, val_main_v159_apply, val_main_v158_apply, w0_at, w1_at, lam_at, Ideal.subf_def, Ideal.mulf_def]

/-- The differential attention of one head, at an index. -/
theorem a_at (b : Fin 8) (h : Fin 4) (t : Fin 2048) (d : Fin 128) :
    val_main_v161 (F := Ideal) x0 x1 x2 x3 x4 (ix4 b h t d) =
      attendH (lam x4) (fun g => queries x0 x2 b h g t) (fun g => keys x0 x1 x3 b h g) (values x0 x1 b h) d := by
  pointwise [val_main_v161]
  simp only [wd_at, v_at, attendH]

end Cert.Reference5Ideal.Diff
-- ==== Proof.DRefD.lean ====
module
public import proofs.«01_k».proof.Proof.DSoft
public import proofs.«01_k».proof.Proof.Gen.Reference5Ideal.Read
public import Idealize.ShloMosaic.Lib.Pointwise
public import proofs.«01_k».proof.Proof.DRefC
@[expose] public section
set_option maxRecDepth 16384
noncomputable section
open Idealize.ShloMosaic Idealize.ShloMosaic.TcCoe Idealize.SL.Sem
namespace Cert.Reference5Ideal.Diff
open Cert.Reference5Ideal Cert.Reference5Ideal.Gen Cert.Reference5Ideal.Read Cert.Attn Cert.Diff

variable (x0 : (⟨S8x2048x4608, .f32⟩ : BufTy).Contents (Elt Ideal)) (x1 : (⟨S8x256x4608, .f32⟩ : BufTy).Contents (Elt Ideal))
  (x2 x3 : (⟨S64, .f32⟩ : BufTy).Contents (Elt Ideal)) (x4 : (⟨S4x64, .f32⟩ : BufTy).Contents (Elt Ideal))
  (x5 : (⟨S128, .f32⟩ : BufTy).Contents (Elt Ideal))

/-- The plain code's normalised result of one head. -/
def out (b : Fin 8) (h : Fin 4) (t : Fin 2048) (d : Fin 128) : EReal :=
  rms (attendH (lam x4) (fun g => queries x0 x2 b h g t) (fun g => keys x0 x1 x3 b h g) (values x0 x1 b h)) (fun e => x5 (ix1 e)) d * lam1

/-- The last normalisation, at an index. -/
theorem norm_at (y : FVec Ideal S8x4x2048x128 .f32) (g : FVec Ideal S128 .f32) (b : Fin 8) (h : Fin 4) (t : Fin 2048) (d : Fin 128) :
    (mulf (mulf (mulf y (broadcastInDim S8x4x2048x128 ![0, 1, 2, 3] bcast_S8x4x2048x1_S8x4x2048x128_0_1_2_3
        (Host.rsqrt (addf (Host.divf (broadcastInDim S8x4x2048x1 ![0, 1, 2] bcast_S8x4x2048_S8x4x2048x1_0_1_2
          (Host.reduceAdd (mulf y y) (val_main_cst_20 (F := Ideal)) reducesTo_S8x4x2048x128_S8x4x2048_d3 h_S_))
            (broadcastInDim S8x4x2048x1 ![] bcast_S_S8x4x2048x1 (val_main_cst_21 (F := Ideal))))
            (broadcastInDim S8x4x2048x1 ![] bcast_S_S8x4x2048x1 (val_main_cst_22 (F := Ideal)))))))
        (broadcastInDim S8x4x2048x128 ![0, 1, 2, 3] bcast_S1x1x1x128_S8x4x2048x128_0_1_2_3
          (broadcastInDim S1x1x1x128 ![3] bcast_S128_S1x1x1x128_3 g)))
      (broadcastInDim S8x4x2048x128 ![] bcast_S_S8x4x2048x128 (val_main_cst_23 (F := Ideal))) (ix4 b h t d) : EReal) =
      rms (fun e => y (ix4 b h t e)) (fun e => g (ix1 e)) d * lam1 := by
  pointwise [val_main_cst_20, val_main_cst_21, val_main_cst_22, val_main_cst_23, rms]

/-- The heads side by side, at an index. -/
theorem turn_at (y : FVec Ideal S8x4x2048x128 .f32) (b : Fin 8) (t : Fin 2048) (l : Fin 512) :
    (truncf .bf16 (shapeCast S8x2048x512 (transpose S8x2048x4x128 [0, 2, 1, 3] y transposes_S8x4x2048x128_S8x2048x4x128_0_2_1_3)
      shapeCasts_S8x2048x4x128_S8x2048x512) bitsLt_bf16_f32 (ix3 b t l) : EReal) =
      y (ix4 b ⟨l.val / 128, by omega⟩ t ⟨l.val % 128, by omega⟩) := by
  pointwise []

/-- One head's result, at an index. -/
theorem n_at (b : Fin 8) (h : Fin 4) (t : Fin 2048) (d : Fin 128) :
    val_main_v176 (F := Ideal) x0 x1 x2 x3 x4 x5 (ix4 b h t d) = out x0 x1 x2 x3 x4 x5 b h t d := by
  unfold val_main_v176 val_main_v175 val_main_v174 val_main_v173 val_main_v172 val_main_v171 val_main_v170 val_main_v169 val_main_v168
  unfold val_main_v167 val_main_v166 val_main_v165 val_main_v164 val_main_v163 val_main_v162
  have hy : (fun e => val_main_v161 (F := Ideal) x0 x1 x2 x3 x4 (ix4 b h t e)) =
      attendH (lam x4) (fun g => queries x0 x2 b h g t) (fun g => keys x0 x1 x3 b h g) (values x0 x1 b h) :=
    funext fun e => a_at x0 x1 x2 x3 x4 b h t e
  generalize val_main_v161 (F := Ideal) x0 x1 x2 x3 x4 = y at hy ⊢
  refine (norm_at y x5 b h t d).trans ?_
  rw [hy, out]

/-- The plain code's result, at an index. -/
theorem o_at (b : Fin 8) (t : Fin 2048) (l : Fin 512) :
    val_main_v179 (F := Ideal) x0 x1 x2 x3 x4 x5 (ix3 b t l) =
      out x0 x1 x2 x3 x4 x5 b ⟨l.val / 128, by omega⟩ t ⟨l.val % 128, by omega⟩ := by
  unfold val_main_v179 val_main_v178 val_main_v177
  have hy : ∀ h d, val_main_v176 (F := Ideal) x0 x1 x2 x3 x4 x5 (ix4 b h t d) = out x0 x1 x2 x3 x4 x5 b h t d :=
    fun h d => n_at x0 x1 x2 x3 x4 x5 b h t d
  generalize val_main_v176 (F := Ideal) x0 x1 x2 x3 x4 x5 = y at hy ⊢
  exact (turn_at y b t l).trans (hy _ _)

end Cert.Reference5Ideal.Diff
-- ==== Proof.DKArr.lean ====
module
public import proofs.«01_k».proof.Proof.DBlks
public import proofs.«01_k».proof.Proof.DBlockA
public import proofs.«01_k».proof.Proof.DBlockB
public import proofs.«01_k».proof.Proof.DTables
public import proofs.«01_k».proof.Proof.DAngle
public import proofs.«01_k».proof.Proof.DRefD
@[expose] public section
set_option maxRecDepth 16384
noncomputable section
open Idealize.ShloMosaic Idealize.ShloMosaic.TcCoe Idealize.SL.Sem
open Idealize.ShloMosaic.Pipeline (Dat)
namespace Cert.Kernel5Ideal.Diff
open Cert.Kernel5Ideal Cert.Kernel5Ideal.Gen Cert.Attn Cert.Diff Cert.Reference5Ideal.Diff
variable (m : (ℓ : Loc nD τ sig) → Buf (Elt Ideal) ℓ) (c : Dev nD)

/-- The latent projections. -/
abbrev A0 : FVec Ideal S8x2048x4608 .f32 := m (c, Proc.tc.devRef main_arg0)
/-- The context's projections. -/
abbrev A1 : FVec Ideal S8x256x4608 .f32 := m (c, Proc.tc.devRef main_arg1)
/-- The query gain. -/
abbrev A2 : FVec Ideal S64 .f32 := m (c, Proc.tc.devRef main_arg2)
/-- The key gain. -/
abbrev A3 : FVec Ideal S64 .f32 := m (c, Proc.tc.devRef main_arg3)
/-- The parameters of lambda. -/
abbrev A4 : FVec Ideal S4x64 .f32 := m (c, Proc.tc.devRef main_arg4)
/-- The result's gain. -/
abbrev A5 : FVec Ideal S128 .f32 := m (c, Proc.tc.devRef main_arg5)

/-- The angles are finite. -/
theorem angle_fin (t : Fin 2048) (i : Fin 32) : Real' (angle t i) := angle_real t i

/-- A lane's place in its half. -/
theorem half_mod (g : Fin 2) (e : Fin 64) : (half g e).val % 64 = e.val := by
  show (g.val * 64 + e.val) % 64 = e.val; omega

/-- The cosine table's row. -/
theorem cos_row (t : Fin 2048) (g : Fin 2) (e : Fin 64) :
    (V m c main_v40 (ix2 t (half g e)) : EReal) = Ideal.cos (angle t ⟨e.val / 2, by omega⟩) := by
  rw [V40 m c t (half g e), V25 m c]
  have h : (⟨(half g e).val % 64 / 2, by omega⟩ : Fin 32) = ⟨e.val / 2, by omega⟩ := Fin.ext (by show (half g e).val % 64 / 2 = e.val / 2; rw [half_mod])
  rw [h]
  rfl

/-- The sine table's row. -/
theorem sin_row (t : Fin 2048) (g : Fin 2) (e : Fin 64) : (V m c main_v43 (ix2 t (half g e)) : EReal) =
    Ideal.sin (angle t ⟨e.val / 2, by omega⟩) * (if e.val % 2 = 0 then (-1 : EReal) else 1) := by
  rw [V43 m c t (half g e), V25 m c, sign_at]
  have h : (⟨(half g e).val % 64 / 2, by omega⟩ : Fin 32) = ⟨e.val / 2, by omega⟩ := Fin.ext (by show (half g e).val % 64 / 2 = e.val / 2; rw [half_mod])
  have h' : (half g e).val % 64 % 2 = e.val % 2 := by rw [half_mod]
  rw [h]
  simp only [h']
  rfl

/-- The gains' rows. -/
theorem gq_row (t : Fin cfg0.N) (g : Fin 2) (e : Fin 64) : (iblk m c 10 t (ix2 0 (half g e)) : EReal) = A2 m c (ix1 e) := by
  refine ((gq_blk m c t _).trans (V47 m c (half g e))).trans ?_
  exact congrArg (fun i : Fin 64 => A2 m c (ix1 i)) (Fin.ext (half_mod g e))
/-- The key gain's row holds the gain once in each half. -/
theorem gk_row (t : Fin cfg0.N) (g : Fin 2) (e : Fin 64) : (iblk m c 11 t (ix2 0 (half g e)) : EReal) = A3 m c (ix1 e) := by
  refine ((gk_blk m c t _).trans (V51 m c (half g e))).trans ?_
  exact congrArg (fun i : Fin 64 => A3 m c (ix1 i)) (Fin.ext (half_mod g e))

/-- The score scale's name stands for the real number. -/
theorem dscale_eq : dscale = ((scaleD : ℝ) : EReal) := IdealRules.named_const.ideal_named_scalar _ _ _ _ rfl

/-- A column of a half's lane, after an offset. -/
theorem col (h : Fin 4) (g : Fin 2) (e : Fin 64) : h.val * 128 + (half g e).val = h.val * 128 + g.val * 64 + e.val := by
  show h.val * 128 + (g.val * 64 + e.val) = _; omega

section
variable (h0 : ∀ b t l, Real' (A0 m c (ix3 b t l))) (h1 : ∀ b t l, Real' (A1 m c (ix3 b t l)))
include h0 h1

/-- A row of the key scratch is two rows of the plain keys. -/
theorem kScr_at (s : Fin cfg0.N) (j : Fin 2304) (g : Fin 2) (e : Fin 64) :
    kScr (iblk m c 2 s) (iblk m c 4 s) (iblk m c 8 s) (iblk m c 9 s) (iblk m c 11 s) (ix2 j (half g e)) =
      keys (A0 m c) (A1 m c) (A3 m c) (bOf s) (hOf s) g j e := by
  unfold kScr keys kN
  by_cases h : j.val < 256
  · rw [dif_pos (show ((ix2 j (half g e) : S2304x128.Idx) 0).val < 256 from h), dif_pos h]
    refine (rmsH_half _ _ (fun e => ?_) g e).trans ?_
    · exact (congrArg Real' (kc_blk m c s ⟨j.val, h⟩ e)).mpr (h1 _ _ _)
    refine congrArg₂ (fun x g => rms64 x g e) (funext fun e => ?_) (funext fun e => gk_row m c s g e)
    refine (kc_blk m c s ⟨j.val, h⟩ (half g e)).trans ?_
    exact congrArg (fun l => A1 m c (ix3 (bOf s) ⟨j.val, h⟩ l)) (Fin.ext (congrArg (2304 + ·) (col (hOf s) g e)))
  · rw [dif_neg (show ¬ ((ix2 j (half g e) : S2304x128.Idx) 0).val < 256 from h), dif_neg h]
    have hj : j.val - 256 < 2048 := by omega
    refine (rot_half _ (fun d => iblk m c 8 s (ix2 ⟨j.val - 256, hj⟩ d)) (fun d => iblk m c 9 s (ix2 ⟨j.val - 256, hj⟩ d)) (angle ⟨j.val - 256, hj⟩) (fun g d => (ck_blk m c s ⟨j.val - 256, hj⟩ _).trans (cos_row m c _ g d))
      (fun g d => (sk_blk m c s ⟨j.val - 256, hj⟩ _).trans (sin_row m c _ g d)) g e).trans ?_
    refine congrArg (fun z => rotH z (angle ⟨j.val - 256, hj⟩) e) (funext fun e => ?_)
    refine (rmsH_half _ _ (fun e => ?_) g e).trans ?_
    · exact (congrArg Real' (kl_blk m c s ⟨j.val - 256, hj⟩ e)).mpr (h0 _ _ _)
    refine congrArg₂ (fun x g => rms64 x g e) (funext fun e => ?_) (funext fun e => gk_row m c s g e)
    refine (kl_blk m c s ⟨j.val - 256, hj⟩ (half g e)).trans ?_
    exact congrArg (fun l => A0 m c (ix3 (bOf s) ⟨j.val - 256, hj⟩ l)) (Fin.ext (congrArg (2304 + ·) (col (hOf s) g e)))

/-- A row of the kernel's rotated queries is two rows of the plain ones. -/
theorem q_row (t : Fin cfg0.N) (r : Fin 1024) (g : Fin 2) (e : Fin 64) :
    rot (rmsH (fun e => iblk m c 1 t (ix3 0 r e)) fun e => iblk m c 10 t (ix2 0 e))
      (fun e => iblk m c 6 t (ix2 r e)) (fun e => iblk m c 7 t (ix2 r e)) (half g e) =
    queries (A0 m c) (A2 m c) (bOf t) (hOf t) g (rowOf t r) e := by
  refine (rot_half _ (fun d => iblk m c 6 t (ix2 r d)) (fun d => iblk m c 7 t (ix2 r d)) (angle (rowOf t r)) (fun g d => (cq_blk m c t r _).trans (cos_row m c _ g d))
      (fun g d => (sq_blk m c t r _).trans (sin_row m c _ g d)) g e).trans ?_
  refine congrArg (fun z => rotH z (angle (rowOf t r)) e) (funext fun e => ?_)
  refine (rmsH_half _ _ (fun e => ?_) g e).trans ?_
  · exact (congrArg Real' (q_blk m c t r e)).mpr (h0 _ _ _)
  refine congrArg₂ (fun x g => rms64 x g e) (funext fun e => ?_) (funext fun e => gq_row m c t g e)
  refine (q_blk m c t r (half g e)).trans ?_
  exact congrArg (fun l => A0 m c (ix3 (bOf t) (rowOf t r) l)) (Fin.ext (col (hOf t) g e))

omit h0 h1 in
/-- A row of the value scratch is a row of the plain values. -/
theorem vScr_at (s : Fin cfg0.N) (j : Fin 2304) (e : Fin 128) :
    vScr (iblk m c 3 s) (iblk m c 5 s) (ix2 j e) = values (A0 m c) (A1 m c) (bOf s) (hOf s) j e := by
  unfold vScr values
  by_cases h : j.val < 256
  · rw [dif_pos (show ((ix2 j e : S2304x128.Idx) 0).val < 256 from h), dif_pos h]
    exact vc_blk m c s ⟨j.val, h⟩ e
  · rw [dif_neg (show ¬ ((ix2 j e : S2304x128.Idx) 0).val < 256 from h), dif_neg h]
    exact vl_blk m c s ⟨j.val - 256, by omega⟩ e

/-- The plain values are finite. -/
theorem values_fin (b : Fin 8) (h : Fin 4) (j : Fin 2304) (e : Fin 128) : Real' (values (A0 m c) (A1 m c) b h j e) := by
  unfold values
  split
  · exact h1 _ _ _
  · exact h0 _ _ _

variable (h2 : ∀ d, Real' (A2 m c (ix1 d))) (h3 : ∀ d, Real' (A3 m c (ix1 d))) (h4 : ∀ r d, Real' (A4 m c (ix2 r d)))

include h2 in
omit h1 in
/-- The plain queries are finite. -/
theorem queries_fin (b : Fin 8) (h : Fin 4) (g : Fin 2) (t : Fin 2048) (e : Fin 64) : Real' (queries (A0 m c) (A2 m c) b h g t e) :=
  rotH_real _ _ (rms64_real _ _ (fun _ => h0 _ _ _) h2) (angle_fin t) e

include h3 in
/-- The plain keys are finite. -/
theorem keys_fin (b : Fin 8) (h : Fin 4) (g : Fin 2) (j : Fin 2304) (e : Fin 64) : Real' (keys (A0 m c) (A1 m c) (A3 m c) b h g j e) := by
  unfold keys
  split
  · exact rms64_real _ _ (fun _ => h1 _ _ _) h3 e
  · exact rotH_real _ _ (rms64_real _ _ (fun _ => h0 _ _ _) h3) (angle_fin _) e

include h2 h3 h4

/-- One row of a block of the kernel's result, from scratches that hold the plain keys and values. -/
theorem blockOut_at (t : Fin cfg0.N) (K W : Vec Ideal S2304x128 .bf16)
    (hK : ∀ j g e, K (ix2 j (half g e)) = keys (A0 m c) (A1 m c) (A3 m c) (bOf t) (hOf t) g j e)
    (hW : ∀ j e, W (ix2 j e) = values (A0 m c) (A1 m c) (bOf t) (hOf t) j e) (r : Fin 1024) (d : Fin 128) :
    blockOut K W (iblk m c 0 t) (iblk m c 1 t) (iblk m c 6 t) (iblk m c 7 t) (iblk m c 10 t) (iblk m c 12 t) r d =
      out (A0 m c) (A1 m c) (A2 m c) (A3 m c) (A4 m c) (A5 m c) (bOf t) (hOf t) (rowOf t r) d := by
  unfold blockOut out
  refine congrArg (· * lam1) (congrArg₂ (fun x g => rms x g d) (funext fun d => ?_) (funext fun e => (go_blk m c t e).trans (V52 m c e)))
  have eL : lamOf (fun e => iblk m c 0 t (ix2 0 e)) (fun e => iblk m c 0 t (ix2 1 e)) (fun e => iblk m c 0 t (ix2 2 e))
      (fun e => iblk m c 0 t (ix2 3 e)) = lam (A4 m c) := by
    unfold lam
    congr 1 <;> exact funext fun e => lp_blk m c t _ e
  have eW : (fun j e => W (ix2 j e)) = values (A0 m c) (A1 m c) (bOf t) (hOf t) := funext fun j => funext fun e => hW j e
  rw [eW]
  refine Eq.trans (congrArg (fun l => attendD l _ _ _ d) eL) ?_
  refine attendD_eq _ _ _ _ _ _ (fun g e => ?_) (fun g j e => hK j g e) (lamOf_real _ _ _ _ (h4 0) (h4 1) (h4 2) (h4 3))
    (fun g e => queries_fin m c h0 h2 _ _ g _ e) (fun g j e => keys_fin m c h0 h1 h3 _ _ g j e) (fun j d => values_fin m c h0 h1 _ _ j d) d
  rw [dscale_eq]
  exact congrArg (· * ((scaleD : ℝ) : EReal)) (q_row m c h0 h1 t r g e)

/-- What each grid point leaves in the result's block. -/
theorem point (t : Fin cfg0.N) (y : S1x1024x128.Idx) : (outsAt0 m c t.val t.isLt).1 y =
    out (A0 m c) (A1 m c) (A2 m c) (A3 m c) (A4 m c) (A5 m c) (bOf t) (hOf t) (rowOf t (y 1)) (y 2) := by
  by_cases h : t.val % 2 = 0
  · rw [blockA m c t h y]
    exact blockOut_at m c h0 h1 h2 h3 h4 t _ _ (fun j g e => (congrFun (scrK m c t h) _).trans (kScr_at m c h0 h1 t j g e))
      (fun j e => (congrFun (scrV m c t h) _).trans (vScr_at m c t j e)) (y 1) (y 2)
  · rw [blockB m c t h y]
    have hs : t.val - 1 < cfg0.N := Nat.lt_of_le_of_lt (Nat.sub_le _ _) t.isLt
    have hp : (⟨t.val - 1, hs⟩ : Fin cfg0.N).val % 2 = 0 := by show (t.val - 1) % 2 = 0; omega
    have eb : bOf ⟨t.val - 1, hs⟩ = bOf t := Fin.ext (by show (t.val - 1) / 8 = t.val / 8; omega)
    have eh : hOf ⟨t.val - 1, hs⟩ = hOf t := Fin.ext (by show (t.val - 1) / 2 % 4 = t.val / 2 % 4; omega)
    have hK : ∀ j g e, (outsAt0 m c (t.val - 1) hs).2.1 (ix2 j (half g e)) = keys (A0 m c) (A1 m c) (A3 m c) (bOf t) (hOf t) g j e := fun j g e =>
      ((congrFun (scrK m c ⟨t.val - 1, hs⟩ hp) _).trans (kScr_at m c h0 h1 ⟨t.val - 1, hs⟩ j g e)).trans (by rw [eb, eh])
    have hW : ∀ j e, (outsAt0 m c (t.val - 1) hs).2.2 (ix2 j e) = values (A0 m c) (A1 m c) (bOf t) (hOf t) j e := fun j e =>
      ((congrFun (scrV m c ⟨t.val - 1, hs⟩ hp) _).trans (vScr_at m c ⟨t.val - 1, hs⟩ j e)).trans (by rw [eb, eh])
    exact blockOut_at m c h0 h1 h2 h3 h4 t _ _ hK hW (y 1) (y 2)

/-- The kernel's result is the plain code's. -/
theorem final : (dats m 0 c).arrAt 13 cfg0.N =
    Cert.Reference5Ideal.Read.val_main_v179 (F := Ideal) (A0 m c) (A1 m c) (A2 m c) (A3 m c) (A4 m c) (A5 m c) := by
  refine (dats m 0 c).arrAt_eq_of_covers 13 _ (by decide +kernel) fun t hf y => ?_
  blk_simp
  rw [after0_13]
  have hy : (y 2).val < 128 := (y 2).isLt
  refine (point m c h0 h1 h2 h3 h4 t y).trans ?_
  have hh := (hOf t).isLt
  have hi : (((cfg0.win 13).blk t).view.emb y : S8x2048x512.Idx) = ix3 (bOf t) (rowOf t (y 1)) ⟨(hOf t).val * 128 + (y 2).val, by omega⟩ := by
    blk_ext [idx t]
  refine Eq.trans ?_ (congrArg (Cert.Reference5Ideal.Read.val_main_v179 (F := Ideal) (A0 m c) (A1 m c) (A2 m c) (A3 m c) (A4 m c) (A5 m c)) hi).symm
  rw [o_at]
  have e1 : (⟨((hOf t).val * 128 + (y 2).val) / 128, by omega⟩ : Fin 4) = hOf t := Fin.ext (by show ((hOf t).val * 128 + (y 2).val) / 128 = (hOf t).val; omega)
  have e3 : (⟨((hOf t).val * 128 + (y 2).val) % 128, by omega⟩ : Fin 128) = y 2 :=
    Fin.ext (by show ((hOf t).val * 128 + (y 2).val) % 128 = (y 2).val; omega)
  simp only [e1, e3]

end
end Cert.Kernel5Ideal.Diff
-- ==== Proof.Diff.lean ====
module
public import proofs.«01_k».proof.Defs
public import proofs.«01_k».proof.Proof.DKArr
public import proofs.«01_k».proof.Proof.Gqa
public import proofs.«01_k».proof.Proof.Gen.Kernel5.Frame
public import proofs.«01_k».proof.Proof.Gen.Reference5Ideal.Run
public import Idealize.ShloMosaic.Lib.Affine
public import Idealize.ShloMosaic.Lib.ReduceAll
public import Idealize.ShloMosaic.Adequacy
public import Idealize.ShloMosaic.Init
@[expose] public section
set_option maxRecDepth 16384
noncomputable section
open Idealize.ShloMosaic Idealize.ShloMosaic.TcCoe Idealize.SL.Sem
namespace Cert.Diff
open Cert.Attn

/-- The precondition's side conditions. -/
theorem preFacts : Cert.Pre_finite_arrays.Facts where
  bcast_S_S8x2048x4608 := by decide
  reducesTo_S8x2048x4608_S_d0_1_2 := by decide
  h_S_ := by decide
  bcast_S_S8x256x4608 := by decide
  reducesTo_S8x256x4608_S_d0_1_2 := by decide
  bcast_S_S64 := by decide
  reducesTo_S64_S_d0 := by decide
  bcast_S_S4x64 := by decide
  reducesTo_S4x64_S_d0_1 := by decide

/-- The precondition says that the projections, the two gains and the parameters of lambda are finite. -/
theorem arrays [hP : Cert.Pre_finite_arrays.Facts] (x0 : FVec Ideal Cert.Pre_finite_arrays.S8x2048x4608 .f32)
    (x1 : FVec Ideal Cert.Pre_finite_arrays.S8x256x4608 .f32) (x2 x3 : FVec Ideal Cert.Pre_finite_arrays.S64 .f32)
    (x4 : FVec Ideal Cert.Pre_finite_arrays.S4x64 .f32) (x5 : FVec Ideal Cert.Pre_finite_arrays.S128 .f32)
    (h : Cert.Pre_finite_arrays.fn (F := Ideal) x0 x1 x2 x3 x4 x5 = fun _ => 1#1) :
    (∀ b t l, Real' (x0 (ix3 b t l))) ∧ (∀ b t l, Real' (x1 (ix3 b t l))) ∧ (∀ d, Real' (x2 (ix1 d))) ∧ (∀ d, Real' (x3 (ix1 d))) ∧
      (∀ r d, Real' (x4 (ix2 r d))) := by
  have hd := congrFun h ix0
  dsimp only [Cert.Pre_finite_arrays.fn, Cert.Pre_finite_arrays.fn_part1] at hd
  have a4 := IntOp.andi_eq_one.1 hd
  have a3 := IntOp.andi_eq_one.1 a4.1
  have a2 := IntOp.andi_eq_one.1 a3.1
  have a1 := IntOp.andi_eq_one.1 a2.1
  exact ⟨fun b t l => Cert.Gqa.fin_of_abs _ (Host.reduce_andi_all _ _ _ _ _ a1.1 (ix3 b t l)),
    fun b t l => Cert.Gqa.fin_of_abs _ (Host.reduce_andi_all _ _ _ _ _ a1.2 (ix3 b t l)),
    fun d => Cert.Gqa.fin_of_abs _ (Host.reduce_andi_all _ _ _ _ _ a2.2 (ix1 d)),
    fun d => Cert.Gqa.fin_of_abs _ (Host.reduce_andi_all _ _ _ _ _ a3.2 (ix1 d)),
    fun r d => Cert.Gqa.fin_of_abs _ (Host.reduce_andi_all _ _ _ _ _ a4.2 (ix2 r d))⟩

/-- The kernel runs and leaves its arguments. -/
theorem frame_p : Cert.quiescent_Kernel5 (hKernel5 := Cert.Kernel5.Gen.facts) := fun m ρ _ => Cert.Kernel5.Gen.frame m ρ
/-- So does its ideal form. -/
theorem frame_pi : Cert.quiescent_Kernel5Ideal (hKernel5Ideal := Cert.Kernel5Ideal.Gen.facts) := fun m ρ _ => Cert.Kernel5Ideal.Gen.frame m ρ
/-- And under the precondition. -/
theorem frame_pi' : Cert.quiescent_Kernel5Ideal_pre_finite_arrays (hKernel5Ideal := Cert.Kernel5Ideal.Gen.facts) (hPre_finite_arrays := preFacts) :=
  fun m ρ _ => Cert.Kernel5Ideal.Gen.frame m ρ

/-- The plain code runs and leaves its arguments. -/
theorem frame_r : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)
/-- And under the precondition. -/
theorem frame_r' : Cert.quiescent_Reference5Ideal_pre_finite_arrays (hReference5Ideal := Cert.Reference5Ideal.Gen.facts) (hPre_finite_arrays := preFacts) :=
  fun m ρ _ => frame_r m ρ trivial

/-- The folded score scale rounds the real number it is named for. -/
theorem preserves : Cert.preserves_Kernel5_Kernel5Ideal :=
  IdealRules.named_const.statement Cert.Kernel5Ideal.κ "diff_scale" .f32 0x3E38AA3B#32 _ rfl

/-- The kernel and the plain differential attention end with equal results. -/
theorem algebraic : Cert.algebraic_Kernel5Ideal_Reference5Ideal_pre_finite_arrays (hKernel5Ideal := Cert.Kernel5Ideal.Gen.facts)
    (hReference5Ideal := Cert.Reference5Ideal.Gen.facts) (hPre_finite_arrays := preFacts) := by
  intro m ρ m' ρ' hpre hagree
  refine ⟨fun c => Cert.Reference5Ideal.Read.val_main_v179 (F := Ideal) (Cert.Kernel5Ideal.Diff.A0 m c) (Cert.Kernel5Ideal.Diff.A1 m c)
      (Cert.Kernel5Ideal.Diff.A2 m c) (Cert.Kernel5Ideal.Diff.A3 m c) (Cert.Kernel5Ideal.Diff.A4 m c) (Cert.Kernel5Ideal.Diff.A5 m c), ?_, ?_⟩
  · refine (θ_run Cert.Kernel5Ideal.defs _ _).mono (fun r h c => ⟨(h c).1.trans ?_, (h c).2⟩) (Cert.Kernel5Ideal.Value.run_blocks (F := Ideal) m ρ)
    obtain ⟨h0, h1, h2, h3, h4⟩ := arrays (hP := preFacts) _ _ _ _ _ _ (hpre c)
    exact Cert.Kernel5Ideal.Diff.final m c h0 h1 h2 h3 h4
  · refine (θ_run Cert.Reference5Ideal.defs _ _).mono (fun r h c => ⟨(h c).1.trans ?_, (h c).2⟩) (Cert.Reference5Ideal.Value.run (F := Ideal) m' ρ')
    refine (Cert.Reference5Ideal.Read.val_main_v179_eq (StableHlo.launchContents m' c)).trans ?_
    show Cert.Reference5Ideal.Read.val_main_v179 (F := Ideal) (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))
      (m' ((c.tc : Thread Cert.Reference5Ideal.nD Cert.Reference5Ideal.τ).loc Cert.Reference5Ideal.main_arg3))
      (m' ((c.tc : Thread Cert.Reference5Ideal.nD Cert.Reference5Ideal.τ).loc Cert.Reference5Ideal.main_arg4))
      (m' ((c.tc : Thread Cert.Reference5Ideal.nD Cert.Reference5Ideal.τ).loc Cert.Reference5Ideal.main_arg5)) = _
    rw [(hagree c).1, (hagree c).2.1, (hagree c).2.2.1, (hagree c).2.2.2.1, (hagree c).2.2.2.2.1, (hagree c).2.2.2.2.2]

end Cert.Diff
-- ==== Proof.lean ====
module

public import proofs.«01_k».proof.Defs
public import proofs.«01_k».proof.Proof.Gqa
public import proofs.«01_k».proof.Proof.In
public import proofs.«01_k».proof.Proof.Query
public import proofs.«01_k».proof.Proof.Out
public import proofs.«01_k».proof.Proof.Diff

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Gqa.preFacts, Cert.Diff.preFacts,
    Cert.Gqa.frame_p, Cert.Gqa.frame_pi, Cert.Gqa.frame_pi', Cert.Gqa.frame_r, Cert.Gqa.frame_r',
    Cert.In.frame_p, Cert.In.frame_pi, Cert.In.frame_r, Cert.Out.frame_p, Cert.Out.frame_pi, Cert.Out.frame_r,
    Cert.Query.frame_p, Cert.Query.frame_pi, Cert.Query.frame_r,
    Cert.Diff.frame_p, Cert.Diff.frame_pi, Cert.Diff.frame_pi', Cert.Diff.frame_r, Cert.Diff.frame_r',
    Cert.Gqa.preserves, Cert.Gqa.algebraic, trivial, Cert.In.algebraic, trivial, Cert.Out.algebraic, trivial, Cert.Query.algebraic,
    Cert.Diff.preserves, Cert.Diff.algebraic⟩

end Cert.Proof

end
